-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v19) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)

variable [Facts]

def fn {F : FTy → Type} [FloatOps F] (main_arg0 : FVec F S512x512 .f32) (main_arg1 : FVec F S512x512 .f32) (main_arg2 : FVec F S512 .f32) : IVec S512x512 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  main_v2
-- ==== Pre_finite_x_ReferenceIdeal.lean ====
abbrev S4096x512 : Shape := ⟨2, ![4096, 512]⟩
abbrev S512 : Shape := ⟨1, ![512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  main_v2
-- ==== Kernel.lean ====
abbrev S512x512 : Shape := ⟨2, ![512, 512]⟩
abbrev S512 : Shape := ⟨1, ![512]⟩
abbrev S2x512 : Shape := ⟨2, ![2, 512]⟩
abbrev S7x2x512 : Shape := ⟨3, ![7, 2, 512]⟩
abbrev S4 : Shape := ⟨1, ![4]⟩
abbrev S7 : Shape := ⟨1, ![7]⟩
abbrev S_ : Shape := ⟨0, ![]⟩
abbrev S1 : Shape := ⟨1, ![1]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S1x2x512 : Shape := ⟨3, ![1, 2, 512]⟩

abbrev nBuf : Space → Nat
  | .hbm => 4
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512, .f32⟩
  | .hbm, ⟨3, _⟩ => ⟨S2x512, .f32⟩
  | .local _ .vmem, ⟨0, _⟩ => ⟨S2x512, .f32⟩
  | .local _ .vmem, ⟨1, _⟩ => ⟨S512x512, .f32⟩
  | .local _ .vmem, ⟨2, _⟩ => ⟨S512x512, .f32⟩
  | .local _ .vmem, ⟨3, _⟩ => ⟨S2x512, .f32⟩
  | .local _ .vmem, ⟨4, _⟩ => ⟨S7x2x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_89 : BitVec 32 := 1#32
  let v120 : BitVec 32 := Scalar.addi v2 c1_i32_89
  let c8_i32_90 : BitVec 32 := 8#32
  let v121 : BitVec 32 := Scalar.remsi v120 c8_i32_90
  let c1_i32_94 : BitVec 32 := 1#32
  let v122 : BitVec 32 := Scalar.muli v121 c1_i32_94
  let v123 : BitVec 32 := Scalar.addi c0_i32_95 v122
  v123.toNat
def k0_dev9 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_98 : BitVec 32 := 2#32
  let v130 : BitVec 32 := Scalar.addi v2 c2_i32_98
  let c8_i32_99 : BitVec 32 := 8#32
  let v131 : BitVec 32 := Scalar.remsi v130 c8_i32_99
  let c1_i32_103 : BitVec 32 := 1#32
  let v132 : BitVec 32 := Scalar.muli v131 c1_i32_103
  let v133 : BitVec 32 := Scalar.addi c0_i32_104 v132
  v133.toNat
def k0_dev10 (d0 : Dev nD) : Nat :=
  let c0_i32_113 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_107 : BitVec 32 := 3#32
  let v140 : BitVec 32 := Scalar.addi v2 c3_i32_107
  let c8_i32_108 : BitVec 32 := 8#32
  let v141 : BitVec 32 := Scalar.remsi v140 c8_i32_108
  let c1_i32_112 : BitVec 32 := 1#32
  let v142 : BitVec 32 := Scalar.muli v141 c1_i32_112
  let v143 : BitVec 32 := Scalar.addi c0_i32_113 v142
  v143.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_116 : BitVec 32 := 4#32
  let v150 : BitVec 32 := Scalar.addi v2 c4_i32_116
  let c8_i32_117 : BitVec 32 := 8#32
  let v151 : BitVec 32 := Scalar.remsi v150 c8_i32_117
  let c1_i32_121 : BitVec 32 := 1#32
  let v152 : BitVec 32 := Scalar.muli v151 c1_i32_121
  let v153 : BitVec 32 := Scalar.addi c0_i32_122 v152
  v153.toNat
def k0_dev12 (d0 : Dev nD) : Nat :=
  let c0_i32_131 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_125 : BitVec 32 := 5#32
  let v160 : BitVec 32 := Scalar.addi v2 c5_i32_125
  let c8_i32_126 : BitVec 32 := 8#32
  let v161 : BitVec 32 := Scalar.remsi v160 c8_i32_126
  let c1_i32_130 : BitVec 32 := 1#32
  let v162 : BitVec 32 := Scalar.muli v161 c1_i32_130
  let v163 : BitVec 32 := Scalar.addi c0_i32_131 v162
  v163.toNat
def k0_dev13 (d0 : Dev nD) : Nat :=
  let c0_i32_140 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_134 : BitVec 32 := 6#32
  let v170 : BitVec 32 := Scalar.addi v2 c6_i32_134
  let c8_i32_135 : BitVec 32 := 8#32
  let v171 : BitVec 32 := Scalar.remsi v170 c8_i32_135
  let c1_i32_139 : BitVec 32 := 1#32
  let v172 : BitVec 32 := Scalar.muli v171 c1_i32_139
  let v173 : BitVec 32 := Scalar.addi c0_i32_140 v172
  v173.toNat
def k0_dev14 (d0 : Dev nD) : Nat :=
  let c0_i32_149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_143 : BitVec 32 := 7#32
  let v180 : BitVec 32 := Scalar.addi v2 c7_i32_143
  let c8_i32_144 : BitVec 32 := 8#32
  let v181 : BitVec 32 := Scalar.remsi v180 c8_i32_144
  let c1_i32_148 : BitVec 32 := 1#32
  let v182 : BitVec 32 := Scalar.muli v181 c1_i32_148
  let v183 : BitVec 32 := Scalar.addi c0_i32_149 v182
  v183.toNat
abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x512 : Shape := ⟨2, ![4096, 512]⟩
abbrev S512 : Shape := ⟨1, ![512]⟩
abbrev S_ : Shape := ⟨0, ![]⟩
abbrev S4096 : Shape := ⟨1, ![4096]⟩
abbrev S4096x1 : Shape := ⟨2, ![4096, 1]⟩
abbrev S1x512 : Shape := ⟨2, ![1, 512]⟩
abbrev S2x512 : Shape := ⟨2, ![2, 512]⟩

abbrev nBuf : Space → Nat
  | .hbm => 52
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .i32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S1x512, .f32⟩
  | .hbm, ⟨51, _⟩ => ⟨S2x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_cst_1 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_cst_2 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_3 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩

abbrev nD : Nat := 1
abbrev τ : Topo := Topo.v7x

variable {F : FTy → Type} [FloatOps F]
-- ==== Proof.KernelIdealCommon.lean ====
/-
The all-reduce of the two column sums on eight devices: cells, contents, schedule, debts and levels.

Every device copies its blocks of `x` and `dy` in two halves, makes its two column sums (`partSum`), hands every other
device leave to write one slot of its landing buffer by a signal on the barrier semaphore, sends its sums to the seven
others, and adds the seven it receives.  The cells of a device are its barrier cell, four copy cells, seven send cells
and seven receive cells; every one of them runs a single round.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.SparseCore.ProtocolKit
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN pointsTo_toks_split pointsTo_toks_join)
open Idealize.ShloMosaic.SparseCore.ProtocolKit
open Idealize.ShloMosaic.Pipeline (Dat Cfg Window BodyObligation cellOf)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The peers -/

set_option backward.proofsInPublic true in
/-- The `k`-th of the seven other devices, counted around the ring from `c`. -/
def peer (c : Dev nD) (k : Fin 7) : Dev nD := ⟨(c.val + k.val + 1) % 8, Nat.mod_lt _ (by decide)⟩

theorem peer_rev (c : Dev nD) (k : Fin 7) : peer (peer c k) k.rev = c := by revert c k; decide
theorem peer_rev' (c : Dev nD) (k : Fin 7) : peer (peer c k.rev) k = c := by revert c k; decide
theorem peer_inj (c : Dev nD) {j k : Fin 7} (h : peer c j = peer c k) : j = k := by revert c j k; decide

/-- Going to the `k`-th peer permutes the devices. -/
def ring (k : Fin 7) : Dev nD ≃ Dev nD :=
  ⟨fun c => peer c k, fun c => peer c k.rev, fun c => peer_rev c k, fun c => peer_rev' c k⟩

/-! ## The semaphores -/

abbrev barS : Sem sig := (SemArray.scalar (sig.barrier 0 rfl) : Sems sig S_).sem
set_option backward.proofsInPublic true in
def cpS (i : Fin 4) : DmaSem sig := ⟨1 + i.val, by show 1 + i.val < 19; omega⟩
set_option backward.proofsInPublic true in
def sdS (k : Fin 7) : DmaSem sig := ⟨5 + k.val, by show 5 + k.val < 19; omega⟩
set_option backward.proofsInPublic true in
def rvS (k : Fin 7) : DmaSem sig := ⟨12 + k.val, by show 12 + k.val < 19; omega⟩

abbrev barCell (c : Dev nD) : GSem nD τ sig := ((c : Thread nD τ), .reg barS)
abbrev cpCell (c : Dev nD) (i : Fin 4) : GSem nD τ sig := ((c : Thread nD τ), .dma (cpS i))
abbrev sdCell (c : Dev nD) (k : Fin 7) : GSem nD τ sig := ((c : Thread nD τ), .dma (sdS k))
abbrev rvCell (c : Dev nD) (k : Fin 7) : GSem nD τ sig := ((c : Thread nD τ), .dma (rvS k))

/-- What a semaphore is for. -/
inductive CellKind where
  | bar
  | copy (i : Fin 4)
  | send (k : Fin 7)
  | recv (k : Fin 7)
  | other
  deriving DecidableEq

set_option backward.proofsInPublic true in
/-- The kind of a semaphore. -/
def kind : SemLoc sig → CellKind
  | .reg s => if s = barS then .bar else .other
  | .dma q =>
    if h : 1 ≤ q.val ∧ q.val < 5 then .copy ⟨q.val - 1, by omega⟩
    else if h : 5 ≤ q.val ∧ q.val < 12 then .send ⟨q.val - 5, by omega⟩
    else if h : 12 ≤ q.val ∧ q.val < 19 then .recv ⟨q.val - 12, by omega⟩
    else .other

theorem kind_bar : kind (.reg barS) = .bar := by decide
theorem kind_cp (i : Fin 4) : kind (.dma (cpS i)) = .copy i := by revert i; decide
theorem kind_sd (k : Fin 7) : kind (.dma (sdS k)) = .send k := by revert k; decide
theorem kind_rv (k : Fin 7) : kind (.dma (rvS k)) = .recv k := by revert k; decide

/-! ## The memrefs -/

abbrev xM : Memref sig .tc .hbm S512x512 .f32 := Memref.whole main_arg0
abbrev dyM : Memref sig .tc .hbm S512x512 .f32 := Memref.whole main_arg1
abbrev xvM : Memref sig .tc .vmem S512x512 .f32 := Memref.whole cc0_scratch0
abbrev dyvM : Memref sig .tc .vmem S512x512 .f32 := Memref.whole cc0_scratch1
abbrev accM : Memref sig .tc .vmem S2x512 .f32 := Memref.whole cc0_scratch2
abbrev gatM : Memref sig .tc .vmem S7x2x512 .f32 := Memref.whole cc0_scratch3
abbrev outM : Memref sig .tc .vmem S2x512 .f32 := Memref.whole cc0_stg0_0

/-- The copies in order: `x` low, `dy` low, `x` high, `dy` high; the buffer each reads, the buffer each fills, the first row. -/
def cpHbm : Fin 4 → Memref sig .tc .hbm S512x512 .f32
  | 0 => xM
  | 1 => dyM
  | 2 => xM
  | 3 => dyM
def cpBuf : Fin 4 → Memref sig .tc .vmem S512x512 .f32
  | 0 => xvM
  | 1 => dyvM
  | 2 => xvM
  | 3 => dyvM
def cpRow : Fin 4 → ℕ
  | 0 => 0
  | 1 => 0
  | 2 => 256
  | 3 => 256

theorem inb_half (i : Fin 4) : ∀ a, (![cpRow i, 0] : Fin 2 → Nat) a + S256x512.size a ≤ S512x512.size a := by
  revert i; decide

abbrev rHalf (i : Fin 4) : Rect S512x512 := Rect.unit (s := S512x512) ![cpRow i, 0] S256x512.size (inb_half i)
def cpSrc (i : Fin 4) : Memref sig .tc .hbm S256x512 .f32 := (cpHbm i).slice (rHalf i) (fun _ => rfl)
def cpDst (i : Fin 4) : Memref sig .tc .vmem S256x512 .f32 := (cpBuf i).slice (rHalf i) (fun _ => rfl)

theorem inb_slot (k : Fin 7) : ∀ a, (![k.val, 0, 0] : Fin 3 → Nat) a + S1x2x512.size a ≤ S7x2x512.size a := by
  revert k; decide

abbrev rSlot (k : Fin 7) : Rect S7x2x512 := Rect.unit (s := S7x2x512) ![k.val, 0, 0] S1x2x512.size (inb_slot k)
/-- Slot `k` of the landing buffer. -/
def slotM (k : Fin 7) : Memref sig .tc .vmem S2x512 .f32 :=
  (gatM.slice (rSlot k) (fun _ => rfl)).squeeze S2x512 squeezes_S1x2x512_S2x512

theorem slotM_0 : slotM 0 = (gatM.slice (Rect.unit (s := S7x2x512) ![0, 0, 0] S1x2x512.size inb_S7x2x512_S1x2x512_0_0_0) (fun _ => rfl)).squeeze S2x512 squeezes_S1x2x512_S2x512 := rfl
theorem slotM_6 : slotM 6 = (gatM.slice (Rect.unit (s := S7x2x512) ![6, 0, 0] S1x2x512.size inb_S7x2x512_S1x2x512_6_0_0) (fun _ => rfl)).squeeze S2x512 squeezes_S1x2x512_S2x512 := rfl

abbrev NC : ℕ := (cpDst 0).view.dmaCredit
abbrev N : ℕ := (accM : Memref sig .tc .vmem S2x512 .f32).view.dmaCredit
theorem NC_pos : 0 < NC := View.dmaCredit_pos _ (by decide)
theorem N_pos : 0 < N := View.dmaCredit_pos _ (by decide)
theorem NC_eq (i : Fin 4) : (cpDst i).view.dmaCredit = NC := by fin_cases i <;> rfl
theorem N_eq (k : Fin 7) : (slotM k).view.dmaCredit = N := by fin_cases k <;> rfl

/-! ## The contents -/

/-- What copy `i` moves on device `c`. -/
def cpVal (c : Dev nD) (i : Fin 4) : S256x512.Idx → Elt F (.f32) :=
  (cpSrc i).view.read (Elt F) (m ((cpSrc i).view.loc (c : Thread nD τ)))

/-- What the destination of copy `i` holds after it, away from it what it held at launch. -/
def cpGot (c : Dev nD) (i : Fin 4) : Buf (Elt F) ((cpDst i).view.loc (c : Thread nD τ)) :=
  (cpDst i).view.write (Elt F) (m ((cpDst i).view.loc (c : Thread nD τ))) (cpVal m c i) Finset.univ

/-- The two column sums of device `c`'s rows. -/
def partSum (c : Dev nD) : (cc0_scratch2 : Ref sig .tc).ty.Contents (Elt F) :=
  k0_pay2 (k0_pay1 (cpVal m c 0) (cpVal m c 1)) (cpVal m c 2) (cpVal m c 3)

/-- What slot `k` of device `c`'s landing buffer receives: the sums of the device whose `k`-th peer is `c`. -/
def slotGot (c : Dev nD) (k : Fin 7) : Buf (Elt F) ((slotM k).view.loc (c : Thread nD τ)) :=
  (slotM k).view.write (Elt F) (m ((slotM k).view.loc (c : Thread nD τ))) (partSum m (peer c k.rev)) Finset.univ

/-- What a load of slot `k` gives. -/
def slotVal (c : Dev nD) (k : Fin 7) : S1x2x512.Idx → Elt F (.f32) :=
  gatM.view.readAt (Elt F) (rSlot k).toLoadRect (slotGot m c k)

/-- The kernel's result on device `c`. -/
def outAt (c : Dev nD) : (cc0_stg0_0 : Ref sig .tc).ty.Contents (Elt F) :=
  k0_pay5 (k0_pay4 (k0_pay3 (partSum m c) (slotVal m c 0)) (slotVal m c 1) (slotVal m c 2) (slotVal m c 3))
    (slotVal m c 4) (slotVal m c 5) (slotVal m c 6)

omit [FloatOps F] in
/-- On a view's own elements a full write forgets what was there. -/
theorem write_forget {κ : Idealize.ShloMosaic.Kind} {sp : CoreSpace} {s : Shape} {e : EltTy} (v : View sig κ sp s e) (f g : v.ty.Contents (Elt F)) (w : s.Idx → Elt F e) :
    ∀ i ∈ v.set, v.write (Elt F) f w Finset.univ i = v.write (Elt F) g w Finset.univ i := by
  intro i hi
  obtain ⟨x, hx, rfl⟩ := Finset.mem_map.mp hi
  rw [View.write_emb_of_mem _ _ hx, View.write_emb_of_mem _ _ hx]

/-! ## Points-tos of the pieces -/

def srcPts (c : Dev nD) (i : Fin 4) : sProp 𝕄 :=
  (cpSrc i).view.loc (c : Thread nD τ) ↦[(cpSrc i).view.set]{fullShare} m ((cpSrc i).view.loc (c : Thread nD τ))
def dstPts (c : Dev nD) (i : Fin 4) (f : Buf (Elt F) ((cpDst i).view.loc (c : Thread nD τ))) : sProp 𝕄 :=
  (cpDst i).view.loc (c : Thread nD τ) ↦[(cpDst i).view.set]{fullShare} f
def slotPts (c : Dev nD) (k : Fin 7) (f : Buf (Elt F) ((slotM k).view.loc (c : Thread nD τ))) : sProp 𝕄 :=
  (slotM k).view.loc (c : Thread nD τ) ↦[(slotM k).view.set]{fullShare} f
/-- The share of the sums send `k` reads. -/
def accTok (c : Dev nD) (k : Fin 7) : sProp 𝕄 :=
  accM.view.loc (c : Thread nD τ) ↦[accM.view.set]{shareTok fullShare 7 k} partSum m c
/-- The share of the sums that stays with the device while the sends fly. -/
def accKeep (c : Dev nD) : sProp 𝕄 :=
  accM.view.loc (c : Thread nD τ) ↦[accM.view.set]{shareDrop fullShare 7} partSum m c

omit [FloatOps F] in
instance srcPts_storable (c : Dev nD) (i) : BI.Storable (upEmb : UEmb _ 𝕄) (srcPts (F := F) m c i) := by unfold srcPts; infer_instance
omit [FloatOps F] in
instance dstPts_storable (c : Dev nD) (i f) : BI.Storable (upEmb : UEmb _ 𝕄) (dstPts (F := F) c i f) := by unfold dstPts; infer_instance
omit [FloatOps F] in
instance slotPts_storable (c : Dev nD) (k f) : BI.Storable (upEmb : UEmb _ 𝕄) (slotPts (F := F) c k f) := by unfold slotPts; infer_instance
instance accTok_storable (c : Dev nD) (k) : BI.Storable (upEmb : UEmb _ 𝕄) (accTok (F := F) m c k) := by unfold accTok; infer_instance

/-! ## The schedule -/

def kduties : CellKind → Finset (Fin 7)
  | .bar => Finset.univ
  | .other => ∅
  | _ => {0}
def kamount : CellKind → ℕ
  | .bar => 1
  | .copy _ => NC
  | .send _ => N
  | .recv _ => N
  | .other => 1
/-- What the payer of a duty leaves in the cell for device `c`: at the barrier cell, duty `k`, the `k`-th peer's slot `k`;
    at a copy cell the half it filled and the half it read; at a send cell the share it read; at a receive cell the slot it filled. -/
def kpay (c : Dev nD) : CellKind → Fin 7 → sProp 𝕄
  | .bar, k => iprop(∃ f, slotPts (peer c k) k f)
  | .copy i, _ => iprop(dstPts c i (cpGot m c i) ∗ srcPts m c i)
  | .send k, _ => accTok m c k
  | .recv k, _ => slotPts c k (slotGot m c k)
  | .other, _ => iprop(emp)

instance kpay_storable (c : Dev nD) (kd : CellKind) (d : Fin 7) : BI.Storable (upEmb : UEmb _ 𝕄) (kpay m c kd d) := by
  cases kd <;> (unfold kpay; infer_instance)

/-- One round, round 0. -/
def sched : Rounds.Schedule (GSem nD τ sig) (Fin 7) 𝕄 where
  duties g r := if r = 0 ∧ g.1.2 = .tc then kduties (kind g.2) else ∅
  unitless _ := False
  amount g _ _ := kamount (kind g.2)
  payload g _ d := kpay m g.1.1 (kind g.2) d
  amount_pos g _ _ _ := by
    cases kind g.2 <;> first | exact Nat.one_pos | exact NC_pos | exact N_pos

instance sched_storable (g : GSem nD τ sig) (r : ℕ) (d : Fin 7) :
    BI.Storable (upEmb : UEmb _ 𝕄) ((sched (F := F) m).payload g r d) := by
  show BI.Storable upEmb (kpay m g.1.1 (kind g.2) d)
  infer_instance

section Sched
variable (c : Dev nD)

theorem duties_at (sm : SemLoc sig) : (sched (F := F) m).duties ((c : Thread nD τ), sm) 0 = kduties (kind sm) := by
  dsimp only [sched]; exact if_pos ⟨rfl, rfl⟩
theorem duties_bar (k : Fin 7) : k ∈ (sched (F := F) m).duties (barCell c) 0 := by rw [duties_at, kind_bar]; exact Finset.mem_univ _
theorem duties_cp (i : Fin 4) : (sched (F := F) m).duties (cpCell c i) 0 = {0} := by rw [duties_at, kind_cp]; rfl
theorem duties_sd (k : Fin 7) : (sched (F := F) m).duties (sdCell c k) 0 = {0} := by rw [duties_at, kind_sd]; rfl
theorem duties_rv (k : Fin 7) : (sched (F := F) m).duties (rvCell c k) 0 = {0} := by rw [duties_at, kind_rv]; rfl
theorem duties_later (g : GSem nD τ sig) : ∀ r, 1 ≤ r → (sched (F := F) m).duties g r = ∅ :=
  fun r hr => by dsimp only [sched]; exact if_neg fun h => by omega

theorem amount_bar (d : Fin 7) : (sched (F := F) m).amount (barCell c) 0 d = 1 := by show kamount (kind (.reg barS)) = 1; rw [kind_bar]; rfl
theorem amount_cp (i : Fin 4) (d : Fin 7) : (sched (F := F) m).amount (cpCell c i) 0 d = NC := by show kamount (kind (.dma (cpS i))) = NC; rw [kind_cp]; rfl
theorem amount_sd (k d : Fin 7) : (sched (F := F) m).amount (sdCell c k) 0 d = N := by show kamount (kind (.dma (sdS k))) = N; rw [kind_sd]; rfl
theorem amount_rv (k d : Fin 7) : (sched (F := F) m).amount (rvCell c k) 0 d = N := by show kamount (kind (.dma (rvS k))) = N; rw [kind_rv]; rfl

theorem payload_bar (k : Fin 7) : (sched (F := F) m).payload (barCell c) 0 k = iprop(∃ f, slotPts (peer c k) k f) := by
  show kpay m c (kind (.reg barS)) k = _; rw [kind_bar]; rfl
theorem payload_cp (i : Fin 4) (d : Fin 7) : (sched (F := F) m).payload (cpCell c i) 0 d = iprop(dstPts c i (cpGot m c i) ∗ srcPts m c i) := by
  show kpay m c (kind (.dma (cpS i))) d = _; rw [kind_cp]; rfl
theorem payload_sd (k d : Fin 7) : (sched (F := F) m).payload (sdCell c k) 0 d = accTok m c k := by
  show kpay m c (kind (.dma (sdS k))) d = _; rw [kind_sd]; rfl
theorem payload_rv (k d : Fin 7) : (sched (F := F) m).payload (rvCell c k) 0 d = slotPts c k (slotGot m c k) := by
  show kpay m c (kind (.dma (rvS k))) d = _; rw [kind_rv]; rfl

theorem expect_bar : (sched (F := F) m).expect (barCell c) 0 = 7 := by
  unfold Schedule.expect Schedule.amountOf
  rw [Finset.sum_congr rfl fun d _ => amount_bar m c d, duties_at, kind_bar]; rfl
theorem expect_cp (i : Fin 4) : (sched (F := F) m).expect (cpCell c i) 0 = NC := by
  unfold Schedule.expect Schedule.amountOf; rw [duties_cp, Finset.sum_singleton, amount_cp]
theorem expect_sd (k : Fin 7) : (sched (F := F) m).expect (sdCell c k) 0 = N := by
  unfold Schedule.expect Schedule.amountOf; rw [duties_sd, Finset.sum_singleton, amount_sd]
theorem expect_rv (k : Fin 7) : (sched (F := F) m).expect (rvCell c k) 0 = N := by
  unfold Schedule.expect Schedule.amountOf; rw [duties_rv, Finset.sum_singleton, amount_rv]

theorem rest_bar : bigSep ((sched (F := F) m).duties (barCell c) 0 \ ∅) (fun d => (sched (F := F) m).payload (barCell c) 0 d)
    = bigSep Finset.univ fun k : Fin 7 => iprop(∃ f, slotPts (peer c k) k f) := by
  rw [Finset.sdiff_empty, duties_at, kind_bar]; exact bigSep_congr fun k _ => payload_bar m c k
theorem rest_cp (i : Fin 4) : bigSep ((sched (F := F) m).duties (cpCell c i) 0 \ ∅) (fun d => (sched (F := F) m).payload (cpCell c i) 0 d)
    = iprop(dstPts c i (cpGot m c i) ∗ srcPts m c i) := by
  rw [Finset.sdiff_empty, duties_cp, bigSep_singleton, payload_cp]
theorem rest_sd (k : Fin 7) : bigSep ((sched (F := F) m).duties (sdCell c k) 0 \ ∅) (fun d => (sched (F := F) m).payload (sdCell c k) 0 d)
    = accTok m c k := by
  rw [Finset.sdiff_empty, duties_sd, bigSep_singleton, payload_sd]
theorem rest_rv (k : Fin 7) : bigSep ((sched (F := F) m).duties (rvCell c k) 0 \ ∅) (fun d => (sched (F := F) m).payload (rvCell c k) 0 d)
    = slotPts c k (slotGot m c k) := by
  rw [Finset.sdiff_empty, duties_rv, bigSep_singleton, payload_rv]

end Sched

/-! ## Debts and levels -/

/-- The receive credits device `c` still owes when sends `n, n + 1, …` are to come; -/
def owR (c : Dev nD) (n : ℕ) : CellTallies nD τ sig Unit := ∑ k ∈ finFrom 7 n, tallyAt (rvCell (peer c k) k) () N
/-- the barrier units it still owes when signals `n, n + 1, …` are to come. -/
def owB (c : Dev nD) (n : ℕ) : CellTallies nD τ sig Unit := ∑ k ∈ finFrom 7 n, tallyAt (barCell (peer c k)) () 1
def O₀ (c : Dev nD) : CellTallies nD τ sig Unit := owR c 0 + owB c 0

theorem owR_step (c : Dev nD) (k : Fin 7) : owR c k.val = owR c (k.val + 1) + tallyAt (rvCell (peer c k) k) () N :=
  sum_finFrom_succ k.isLt _
theorem owB_step (c : Dev nD) (O : CellTallies nD τ sig Unit) (k : Fin 7) :
    O + owB c k.val = (O + owB c (k.val + 1)) + tallyAt (barCell (peer c k)) () 1 :=
  add_sum_finFrom_succ O k.isLt _
theorem owR_end (c : Dev nD) : owR c 7 = 0 := sum_finFrom_self _
theorem owB_end (c : Dev nD) : owB c 7 = 0 := sum_finFrom_self _

def L (g : GSem nD τ sig) : Finset Unit := if g.1.2 = .tc then {()} else ∅
def klev : CellKind → ℕ
  | .bar => 1
  | .recv _ => 2
  | _ => 0
/-- Receive cells above the barrier cells, both above everything else. -/
def lv (g : GSem nD τ sig) (_ : Unit) : ℕ := klev (kind g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [kind_bar]; rfl
theorem lv_rv (c : Dev nD) (k : Fin 7) (u : Unit) : lv (rvCell c k) u = 2 := by unfold lv; rw [kind_rv]; rfl
theorem lv_cp (c : Dev nD) (i : Fin 4) (u : Unit) : lv (cpCell c i) u = 0 := by unfold lv; rw [kind_cp]; rfl

theorem sum_tally_pos {I : Type} (s : Finset I) (f : I → CellTallies nD τ sig Unit) {g : GSem nD τ sig} {u : Unit}
    (h : 0 < (∑ i ∈ s, f i) g u) : ∃ i ∈ s, 0 < f i g u := by
  rw [Finset.sum_apply, Finsupp.finset_sum_apply] at h
  by_contra hn
  refine absurd h (Nat.not_lt.mpr (Nat.le_zero.mpr (Finset.sum_eq_zero fun i hi => ?_)))
  by_contra h0
  exact hn ⟨i, hi, Nat.pos_of_ne_zero h0⟩

theorem tallyAt_pos {g g' : GSem nD τ sig} {u u' : Unit} {n : ℕ} (h : 0 < (tallyAt g' u' n : CellTallies nD τ sig Unit) g u) : g = g' := by
  rw [tallyAt_apply] at h
  by_contra hn
  rw [if_neg (fun h' => hn h'.1)] at h
  exact Nat.lt_irrefl 0 h

theorem owR_pos {c : Dev nD} {n : ℕ} {g : GSem nD τ sig} {u : Unit} (h : 0 < owR c n g u) : ∃ k, g = rvCell (peer c k) k := by
  obtain ⟨k, -, hk⟩ := sum_tally_pos _ _ h
  exact ⟨k, tallyAt_pos hk⟩
theorem owB_pos {c : Dev nD} {n : ℕ} {g : GSem nD τ sig} {u : Unit} (h : 0 < owB c n g u) : ∃ k, g = barCell (peer c k) := by
  obtain ⟨k, -, hk⟩ := sum_tally_pos _ _ h
  exact ⟨k, tallyAt_pos hk⟩
theorem O₀_pos {c : Dev nD} {g : GSem nD τ sig} {u : Unit} (h : 0 < O₀ c g u) :
    (∃ k, g = rvCell (peer c k) k) ∨ ∃ k, g = barCell (peer c k) := by
  unfold O₀ at h
  rw [Pi.add_apply, Finsupp.add_apply] at h
  by_cases h1 : 0 < owR c 0 g u
  · exact Or.inl (owR_pos h1)
  · exact Or.inr (owB_pos (c := c) (n := 0) (u := u) (by omega))

omit [FloatOps F] in
/-- A wait on a cell of level 0 while anything of the launch's debt is owed, or nothing. -/
theorem mayWait_low (c : Dev nD) (sm : SemLoc sig) (hsm : klev (kind sm) = 0) (O : CellTallies nD τ sig Unit) (hO : O = O₀ c ∨ O = owR c 0 ∨ O = 0) :
    (levAts L lv : sProp 𝕄) ⊢ MayWait (c : Thread nD τ) sm () O := by
  have hpos : O = O₀ c ∨ O = owR c 0 → ∀ g u, 0 < O g u → g.1.2 = .tc ∧ 0 < lv g u := by
    rintro (rfl | rfl) g u hg
    · rcases O₀_pos hg with ⟨k, rfl⟩ | ⟨k, rfl⟩
      · exact ⟨rfl, by rw [lv_rv]; decide⟩
      · exact ⟨rfl, by rw [lv_bar]; decide⟩
    · obtain ⟨k, rfl⟩ := owR_pos hg
      exact ⟨rfl, by rw [lv_rv]; decide⟩
  by_cases h : O = O₀ c ∨ O = owR c 0
  · exact MayOwe.of_cut (L := L) (lev := lv) 0 (fun p hp => by rw [Finset.mem_singleton.mp hp, L_tc]; exact Finset.mem_singleton_self _)
      (fun g u hg => by unfold L; rw [if_pos (hpos h g u hg).1]; exact Finset.mem_singleton_self _)
      (fun p hp => by rw [Finset.mem_singleton.mp hp]; show klev (kind sm) ≤ 0; rw [hsm])
      (fun g u hg => (hpos h g u hg).2)
  · have : O = 0 := by tauto
    subst this
    rw [MayWait_zero]; iintro -; iempintro

omit [FloatOps F] in
/-- At its barrier wait a device owes receive credits only. -/
theorem mayWait_bar (c : Dev nD) : (levAts L lv : sProp 𝕄) ⊢ MayWait (c : Thread nD τ) (.reg barS) () (owR c 0) :=
  MayOwe.of_cut (L := L) (lev := lv) 1 (fun p hp => by rw [Finset.mem_singleton.mp hp, L_tc]; exact Finset.mem_singleton_self _)
    (fun g u hg => by obtain ⟨k, rfl⟩ := owR_pos hg; rw [L_tc]; exact Finset.mem_singleton_self _)
    (fun p hp => by rw [Finset.mem_singleton.mp hp, lv_bar])
    (fun g u hg => by obtain ⟨k, rfl⟩ := owR_pos hg; rw [lv_rv]; decide)

/-! ## The cells as one family, and what every device knows of them -/

/-- A device's cells: the barrier's, the copies', the sends', the receives'. -/
abbrev CIx : Type := Unit ⊕ (Fin 4 ⊕ (Fin 7 ⊕ Fin 7))

def csem : CIx → SemLoc sig
  | .inl _ => .reg barS
  | .inr (.inl i) => .dma (cpS i)
  | .inr (.inr (.inl k)) => .dma (sdS k)
  | .inr (.inr (.inr k)) => .dma (rvS k)

abbrev iBar : CIx := .inl ()
abbrev iCp (i : Fin 4) : CIx := .inr (.inl i)
abbrev iSd (k : Fin 7) : CIx := .inr (.inr (.inl k))
abbrev iRv (k : Fin 7) : CIx := .inr (.inr (.inr k))

def kcell (ck : Dev nD × CIx) : GSem nD τ sig := ((ck.1 : Thread nD τ), csem ck.2)

theorem bigSep_CIx (Φ : CIx → sProp 𝕄) : bigSep Finset.univ Φ
    = iprop(Φ iBar ∗ (bigSep Finset.univ fun i => Φ (iCp i)) ∗ (bigSep Finset.univ fun k => Φ (iSd k)) ∗ bigSep Finset.univ fun k => Φ (iRv k)) := by
  rw [BI.bigSep_univ_sum, BI.bigSep_univ_sum, BI.bigSep_univ_sum, show (Finset.univ : Finset Unit) = {()} from rfl, bigSep_singleton]
  rfl

/-- The invariants of every cell of every device, and that each has reached its round. -/
def records (K : Dev nD × CIx → ℕ) : sProp 𝕄 :=
  iprop((bigSep Finset.univ fun ck : Dev nD × CIx => cellInv ER (sched m) (K ck) (kcell ck))
    ∗ bigSep Finset.univ fun ck : Dev nD × CIx => reached ER (kcell ck) 0)

instance records_persistent (K : Dev nD × CIx → ℕ) : BI.Persistent (records m K) := by unfold records; infer_instance

theorem inv_at (K : Dev nD × CIx → ℕ) (ck : Dev nD × CIx) : records m K ⊢ cellInv ER (sched m) (K ck) (kcell ck) := by
  unfold records
  iintro ⟨H, -⟩
  iapply (show (bigSep Finset.univ fun ck : Dev nD × CIx => (cellInv ER (sched m) (K ck) (kcell ck) : sProp 𝕄)) ⊢ cellInv ER (sched m) (K ck) (kcell ck)
    from bigSep_elim (Finset.mem_univ ck))
  iexact H
theorem reached_at (K : Dev nD × CIx → ℕ) (ck : Dev nD × CIx) : records m K ⊢ reached ER (kcell ck) 0 := by
  unfold records
  iintro ⟨-, H⟩
  iapply (show (bigSep Finset.univ fun ck : Dev nD × CIx => (reached ER (kcell ck) 0 : sProp 𝕄)) ⊢ reached ER (kcell ck) 0
    from bigSep_elim (Finset.mem_univ ck))
  iexact H

/-- The thread's debt, whatever it has waited for. -/
def owesE (c : Dev nD) (O : CellTallies nD τ sig Unit) : sProp 𝕄 := iprop(∃ W, owes (c : Thread nD τ) O W)

end Cert.KernelIdealProof

end
-- ==== Proof.KernelIdealSteps.lean ====
/-
One lemma for each kind of step a device takes, stated once for every number `k` the step is taken with.

A stage of the kernel is a family of steps `k = 0, 1, …`; what the device holds within a stage is written as the family of
what the steps still to come need and the family of what the steps taken have brought.
-/
module

public import proofs.«01_k».proof.Proof.KernelIdealCommon

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit
open Idealize.ShloMosaic.Transfers (shareDrop shareTok shareTokN pointsTo_toks_split pointsTo_toks_join)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

variable (K : Dev nD × CIx → ℕ) (c : Dev nD)

/-! ## The signals -/

/-- Before signal `n`: the debt, and for every signal to come the right to pay it and the slot it gives away. -/
def atSignal (n : ℕ) : sProp 𝕄 :=
  iprop(records m K ∗ owesE c (owR c 0 + owB c n)
    ∗ bigSep (finFrom 7 n) fun j : Fin 7 => iprop(dutyTok ER (barCell (peer c j)) 0 j.rev ∗ ∃ f, slotPts c j.rev f))

theorem step_signal (j : Fin 7) {n n' : ℕ} (hn : n = j.val) (hn' : n' = j.val + 1) (d : Dev nD) (hd : d = peer c j) (v : ℕ) (hv : v = 1)
    {α : Type} {Q : α → sProp 𝕄} {k : PUnit → Prog (TpuEff nD τ sig (Elt F) Λ₀ .tc) α} :
    atSignal m K c n
      ⊢ iprop((atSignal m K c n' -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS v) k) Q) := by
  subst hn hn' hd hv
  unfold atSignal owesE
  rw [bigSep_finFrom_succ j.isLt, owB_step]
  iintro ⟨#HR, ⟨%W, HO⟩, ⟨Htok, ⟨%f, Hs⟩⟩, Hrest⟩ Hk
  iapply (Rounds.wp_signal 𝒱₀ ER (sched m) (c : Thread nD τ) none (dst := (peer c j : Thread nD τ)) (κ := K (peer c j, iBar))
      (d := j.rev) (duties_bar m (peer c j) j.rev) (amount_bar m (peer c j) j.rev) () (owR c 0 + owB c (j.val + 1)) rfl)
    $$ [HO Htok Hs]
  · isplitr; · iapply (inv_at m K (peer c j, iBar)); iexact HR
    isplitl [HO]; · iexact HO
    isplitl [Htok]; · iexact Htok
    isplitl [Hs]
    · rw [payload_bar, peer_rev]; iexists f; iexact Hs
    · iapply (reached_at m K (peer c j, iBar)); iexact HR
  iintro HO
  iapply Hk
  isplitr; · iexact HR
  isplitl [HO]; · iexists W; iexact HO
  iexact Hrest

/-! ## The copies -/

/-- Before the start of copy `n`: for every copy to come its duty and its two halves, for every copy started its credit. -/
def atCopy (n : ℕ) : sProp 𝕄 :=
  iprop(records m K
    ∗ (bigSep (finFrom 4 n) fun i : Fin 4 => iprop(dutyTok ER (cpCell c i) 0 0 ∗ srcPts m c i ∗ ∃ f, dstPts c i f))
    ∗ bigSep (finUpTo 4 n) fun i : Fin 4 => cred (tallyAt (cpCell c i) () NC))

theorem step_copy (i : Fin 4) {n n' : ℕ} (hn : n = i.val) (hn' : n' = i.val + 1) {src : Memref sig .tc .hbm S256x512 .f32} {dst : Memref sig .tc .vmem S256x512 .f32} {sem : DmaSem sig}
    (hs : src = cpSrc i) (hd : dst = cpDst i) (hq : sem = cpS i)
    {hsrc : src.view.WordExact} {hdst : dst.view.WordExact} {hsem : DmaTarget.Typed (nD := nD) (τ := τ) (p := Proc.tc) .hbm (.dma sem) (.here dst)}
    {α : Type} {Q : α → sProp 𝕄} {k : PUnit → Prog (TpuEff nD τ sig (Elt F) Λ₀ .tc) α} :
    atCopy m K c n
      ⊢ iprop((atCopy m K c n' -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma sem) hsrc hdst hsem) k) Q) := by
  subst hn hn' hs hd hq
  unfold atCopy
  rw [bigSep_finFrom_succ i.isLt, bigSep_finUpTo_succ i.isLt]
  iintro ⟨#HR, ⟨⟨Htok, Hsrc, ⟨%f, Hdst⟩⟩, Hrest⟩, Hcr⟩ Hk
  unfold srcPts dstPts
  iapply (Rounds.wp_copy_pointsTo 𝒱₀ ER (sched m) (c : Thread nD τ) none (κ := K (c, iCp i)) (r := 0) (d := 0) (fd := f)
      (by rw [duties_cp]; exact Finset.mem_singleton_self _) () NC (show (cpDst i).view.amount (.dma (cpS i)) = NC from NC_eq i) (amount_cp m c i 0)
      (by
        rw [payload_cp]; unfold dstPts srcPts
        exact sep_mono_left (Entails.of_eq (pointsTo_congr (write_forget _ _ _ _)))))
    $$ [Htok Hsrc Hdst]
  · isplitr; · iapply (inv_at m K (c, iCp i)); iexact HR
    isplitl [Hsrc]; · iexact Hsrc
    isplitl [Hdst]; · iexact Hdst
    isplitl [Htok]; · iexact Htok
    iapply (reached_at m K (c, iCp i)); iexact HR
  iintro Hc
  iapply Hk
  isplitr; · iexact HR
  isplitl [Hrest]; · iexact Hrest
  isplitl [Hc]; · iexact Hc
  iexact Hcr

/-- Before the wait for copy `n`: for every wait to come the credit and the position, for every wait made the closed cell and
    the two halves, the destination's filled. -/
def atCopied (n : ℕ) : sProp 𝕄 :=
  iprop(records m K ∗ levAts L lv ∗ owesE c (owR c 0)
    ∗ (bigSep (finFrom 4 n) fun i : Fin 4 => iprop(cred (tallyAt (cpCell c i) () NC) ∗ atPos ER (cpCell c i) 0 ∅ 0))
    ∗ bigSep (finUpTo 4 n) fun i : Fin 4 => iprop(semVal (cpCell c i) 0 ∗ dstPts c i (cpGot m c i) ∗ srcPts m c i))

theorem step_copied (i : Fin 4) {n n' : ℕ} (hn : n = i.val) (hn' : n' = i.val + 1) {src : Memref sig .tc .hbm S256x512 .f32} {dst : Memref sig .tc .vmem S256x512 .f32} {sem : DmaSem sig}
    (hd : dst = cpDst i) (hq : sem = cpS i)
    {hsrc : src.view.WordExact} {hdst : dst.view.WordExact}
    {α : Type} {Q : α → sProp 𝕄} {k : PUnit → Prog (TpuEff nD τ sig (Elt F) Λ₀ .tc) α} :
    atCopied m K c n
      ⊢ iprop((atCopied m K c n' -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sem src dst hsrc hdst) k) Q) := by
  subst hn hn' hd hq
  unfold atCopied owesE
  rw [bigSep_finFrom_succ i.isLt, bigSep_finUpTo_succ i.isLt]
  iintro ⟨#HR, #HL, ⟨%W, HO⟩, ⟨⟨Hc, Hat⟩, Hrest⟩, Hdone⟩ Hk
  iapply (Rounds.wp_wait_rest_token 𝒱₀ ER (sched m) (c : Thread nD τ) none (κ := K (c, iCp i)) (sm := .dma (cpS i)) (k' := NC)
      (by intro Kt; rw [← NC_eq i]; exact wpE_waitDma2_eq 𝒱₀ (c : Thread nD τ) none Set.univ Kt)
      (Set.mem_univ _) () (O := owR c 0) (W := W) (R := 0) (m := 0) (T := ∅)
      (by rw [Nat.zero_add, expect_cp])) $$ [Hc HO Hat]
  · isplitr; · iapply (inv_at m K (c, iCp i)); iexact HR
    isplitl [Hc]; · iexact Hc
    isplitl [HO]; · iexact HO
    isplitr; · iapply (mayWait_low c (.dma (cpS i)) (by rw [kind_cp]; rfl) (owR c 0) (.inr (.inl rfl))); iexact HL
    iexact Hat
  iintro ⟨HO, Hat, -, Hpay⟩
  ihave Hp := (Entails.of_eq (rest_cp m c i)) $$ Hpay
  imod (Rounds.cell_close ER (sched m) (Set.mem_univ (K (c, iCp i))) (fun h => h) (R := 0 + 1) (duties_later m (cpCell c i))) $$ [Hat] with Hz
  · isplitr; · iapply (inv_at m K (c, iCp i)); iexact HR
    iexact Hat
  iapply Hk
  isplitr; · iexact HR
  isplitr; · iexact HL
  isplitl [HO]; · iexists _; iexact HO
  isplitl [Hrest]; · iexact Hrest
  isplitl [Hz Hp]
  · isplitl [Hz]; · iexact Hz
    iexact Hp
  iexact Hdone

/-- The load of the half a finished copy filled. -/
theorem step_half (i : Fin 4) (n : ℕ) (hi : i.val < n) {b : Memref sig .tc .vmem S512x512 .f32} (hb : b = cpBuf i)
    {off : Fin 2 → ℕ} (ho : off = ![cpRow i, 0]) {inb : ∀ a, off a + S256x512.size a ≤ S512x512.size a}
    {hl : b.view.LoadsAt (Rect.unit (s := S512x512) off S256x512.size inb).toLoadRect} {α : Type} {Q : α → sProp 𝕄}
    {kk : (S256x512.Idx → Elt F .f32) → Prog (TpuEff nD τ sig (Elt F) Λ₀ .tc) α} :
    atCopied m K c n
      ⊢ iprop((atCopied m K c n -∗ wp frame (wpE (defs₀ (F := F)) 𝒱₀ (c : Thread nD τ) none) Set.univ (kk (cpVal m c i)) Q)
          -∗ wp frame (wpE (defs₀ (F := F)) 𝒱₀ (c : Thread nD τ) none) Set.univ
            (.op (.load b (Rect.unit (s := S512x512) off S256x512.size inb).toLoadRect hl) kk) Q) := by
  subst hb ho
  have hmem : i ∈ finUpTo 4 n := mem_finUpTo.mpr hi
  have hv : ((cpBuf i).access (rHalf i)).read (Elt F) (cpGot m c i) = cpVal m c i := View.read_write_univ _ _
  have he : ∀ Φ : Fin 4 → sProp 𝕄, bigSep (finUpTo 4 n) Φ = iprop(Φ i ∗ bigSep ((finUpTo 4 n).erase i) Φ) := fun _ => bigSep_erase hmem
  unfold atCopied
  rw [he]
  iintro ⟨#HR, #HL, HO, Hrest, ⟨Hz, Hd, Hs⟩, Hdone⟩ Hk
  have e : (dstPts c i (cpGot m c i) : sProp 𝕄) = (((cpBuf i).access (rHalf i)).loc (c : Thread nD τ) ↦[((cpBuf i).access (rHalf i)).set]{fullShare} cpGot m c i) := rfl
  ihave Hd := (Entails.of_eq e) $$ Hd
  rw [e]
  iapply (wp_load_rect 𝒱₀ (c : Thread nD τ) none Set.univ (m := cpBuf i) (r := rHalf i) (S := ((cpBuf i).access (rHalf i)).set) (q := fullShare)
    (f := cpGot m c i) (Finset.Subset.refl _)) $$ Hd
  iintro Hd
  rw [hv]
  iapply Hk
  isplitr; · iexact HR
  isplitr; · iexact HL
  isplitl [HO]; · iexact HO
  isplitl [Hrest]; · iexact Hrest
  isplitl [Hz Hd Hs]
  · isplitl [Hz]; · iexact Hz
    isplitl [Hd]; · iexact Hd
    iexact Hs
  iexact Hdone

/-! ## The barrier wait -/

theorem step_barrier (v : ℕ) (hv : v = 7)
    {α : Type} {Q : α → sProp 𝕄} {k : PUnit → Prog (TpuEff nD τ sig (Elt F) Λ₀ .tc) α} :
    iprop(records m K ∗ levAts L lv ∗ owesE c (owR c 0) ∗ cred (tallyAt (barCell c) () 7) ∗ atPos ER (barCell c) 0 ∅ 0)
      ⊢ iprop((iprop(owesE c (owR c 0) ∗ semVal (barCell c) 0 ∗ bigSep Finset.univ fun k : Fin 7 => iprop(∃ f, slotPts (F := F) (peer c k) k f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS v) k) Q) := by
  subst hv
  unfold owesE
  iintro ⟨#HR, #HL, ⟨%W, HO⟩, Hc, Hat⟩ Hk
  iapply (Rounds.wp_wait_rest_token 𝒱₀ ER (sched m) (c : Thread nD τ) none (κ := K (c, iBar))
      (wpE_semWait_eq 𝒱₀ (c : Thread nD τ) none Set.univ) (Set.mem_univ _) () (O := owR c 0) (W := W) (R := 0) (m := 0) (T := ∅)
      (by rw [Nat.zero_add, expect_bar])) $$ [Hc HO Hat]
  · isplitr; · iapply (inv_at m K (c, iBar)); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar m c)) $$ Hpay
  imod (Rounds.cell_close ER (sched m) (Set.mem_univ (K (c, iBar))) (fun h => h) (R := 0 + 1) (duties_later m (barCell c))) $$ [Hat] with Hz
  · isplitr; · iapply (inv_at m K (c, iBar)); iexact HR
    iexact Hat
  iapply Hk
  isplitl [HO]; · iexists _; iexact HO
  isplitl [Hz]; · iexact Hz
  iexact Hp

/-! ## The sends -/

/-- Before send `n`: the debt; for every send to come its two duties, the peer's slot and the share of the sums it reads; for
    every send made its credit. -/
def atSend (n : ℕ) : sProp 𝕄 :=
  iprop(records m K ∗ owesE c (owR c n)
    ∗ (bigSep (finFrom 7 n) fun k : Fin 7 => iprop((dutyTok ER (sdCell c k) 0 0 ∗ dutyTok ER (rvCell (peer c k) k) 0 0)
        ∗ (∃ f, slotPts (peer c k) k f) ∗ accTok m c k))
    ∗ bigSep (finUpTo 7 n) fun k : Fin 7 => cred (tallyAt (sdCell c k) () N))

theorem step_send (k : Fin 7) {n n' : ℕ} (hn : n = k.val) (hn' : n' = k.val + 1) (d : Dev nD) (hd : d = peer c k) {dst : Memref sig .tc .vmem S2x512 .f32} (hm : dst = slotM k)
    {sS sR : DmaSem sig} (hS : sS = sdS k) (hR : sR = rvS k)
    {hsc : (dst : Memref sig (Dev.tc d : Thread nD τ).2.kind .vmem S2x512 .f32).view.ref.isScScratch = false}
    {hsrc : (accM : Memref sig .tc .vmem S2x512 .f32).view.WordExact} {hdst : dst.view.WordExact}
    {hsem : DmaTarget.Typed .vmem (.dma sR) (.remote (Dev.tc d : Thread nD τ) (dst : Memref sig .tc .vmem S2x512 .f32) (.dma sS) hsc)}
    {α : Type} {Q : α → sProp 𝕄} {kk : PUnit → Prog (TpuEff nD τ sig (Elt F) Λ₀ .tc) α} :
    atSend m K c n
      ⊢ iprop((atSend m K c n' -∗ wp frame (wpE (defs₀ (F := F)) 𝒱₀ (c : Thread nD τ) none) Set.univ (kk ⟨⟩) Q)
          -∗ wp frame (wpE (defs₀ (F := F)) 𝒱₀ (c : Thread nD τ) none) Set.univ
            (.op (.enqueueDma accM (.remote (Dev.tc d : Thread nD τ) dst (.dma sS) hsc) (.dma sR) hsrc hdst hsem) kk) Q) := by
  subst hn hn' hd hm hS hR
  unfold atSend owesE
  rw [bigSep_finFrom_succ k.isLt, bigSep_finUpTo_succ k.isLt, owR_step]
  iintro ⟨#HR, ⟨%W, HO⟩, ⟨⟨⟨HtS, HtR⟩, ⟨%f, Hslot⟩, Hacc⟩, Hrest⟩, Hcr⟩ Hk
  unfold slotPts accTok
  iapply (Rounds.wp_send_pointsTo 𝒱₀ ER (sched m) (c : Thread nD τ) none (κ₁ := K (c, iSd k)) (κ₂ := K (peer c k, iRv k))
      (r₁ := 0) (r₂ := 0) (d₁ := 0) (d₂ := 0) (fd := f)
      (by rw [duties_sd]; exact Finset.mem_singleton_self _) (by rw [duties_rv]; exact Finset.mem_singleton_self _)
      () () N (show (slotM k).view.amount (.dma (rvS k)) = N from N_eq k) (amount_sd m c k 0) (amount_rv m (peer c k) k 0) (owR c (k.val + 1)) rfl (W := W)
      (by rw [payload_sd]; exact BI.Entails.refl _)
      (by
        rw [payload_rv]; unfold slotPts slotGot
        rw [peer_rev]
        exact Entails.of_eq (pointsTo_congr (write_forget _ _ _ (partSum m c)))))
    $$ [HO HtS HtR Hslot Hacc]
  · isplitr; · iapply (inv_at m K (c, iSd k)); iexact HR
    isplitr; · iapply (inv_at m K (peer c k, iRv k)); iexact HR
    isplitl [Hacc]; · iexact Hacc
    isplitl [Hslot]; · iexact Hslot
    isplitl [HO]; · iexact HO
    isplitl [HtS]; · iexact HtS
    isplitr; · iapply (reached_at m K (c, iSd k)); iexact HR
    isplitl [HtR]; · iexact HtR
    iapply (reached_at m K (peer c k, iRv k)); iexact HR
  iintro ⟨Hc, HO⟩
  iapply Hk
  isplitr; · iexact HR
  isplitl [HO]; · iexists W; iexact HO
  isplitl [Hrest]; · iexact Hrest
  isplitl [Hc]; · iexact Hc
  iexact Hcr

/-! ## The waits for what the others send, and the loads of it -/

/-- Before the wait for receive `n`. -/
def atRecv (n : ℕ) : sProp 𝕄 :=
  iprop(records m K ∗ owesE c 0
    ∗ (bigSep (finFrom 7 n) fun k : Fin 7 => iprop(cred (tallyAt (rvCell c k) () N) ∗ atPos ER (rvCell c k) 0 ∅ 0))
    ∗ bigSep (finUpTo 7 n) fun k : Fin 7 => iprop(slotPts c k (slotGot m c k) ∗ semVal (rvCell c k) 0))

theorem step_recv (k : Fin 7) {n n' : ℕ} (hn : n = k.val) (hn' : n' = k.val + 1) {src dst : Memref sig .tc .vmem S2x512 .f32} (hd : dst = slotM k) {sem : DmaSem sig} (hq : sem = rvS k)
    {hsrc : src.view.WordExact} {hdst : dst.view.WordExact}
    {α : Type} {Q : α → sProp 𝕄} {kk : PUnit → Prog (TpuEff nD τ sig (Elt F) Λ₀ .tc) α} :
    atRecv m K c n
      ⊢ iprop((atRecv m K c n' -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src dst hsrc hdst) kk) Q) := by
  subst hn hn' hd hq
  unfold atRecv owesE
  rw [bigSep_finFrom_succ k.isLt, bigSep_finUpTo_succ k.isLt]
  iintro ⟨#HR, ⟨%W, HO⟩, ⟨⟨Hc, Hat⟩, Hrest⟩, Hdone⟩ Hk
  iapply (Rounds.wp_wait_rest_token 𝒱₀ ER (sched m) (c : Thread nD τ) none (κ := K (c, iRv k)) (sm := .dma (rvS k)) (k' := N)
      (by intro Kt; rw [← N_eq k]; exact wpE_waitDma2_eq 𝒱₀ (c : Thread nD τ) none Set.univ Kt)
      (Set.mem_univ _) () (O := 0) (W := W) (R := 0) (m := 0) (T := ∅)
      (by rw [Nat.zero_add, expect_rv])) $$ [Hc HO Hat]
  · isplitr; · iapply (inv_at m K (c, iRv k)); iexact HR
    isplitl [Hc]; · iexact Hc
    isplitl [HO]; · iexact HO
    isplitr; · rw [MayWait_zero]; iempintro
    iexact Hat
  iintro ⟨HO, Hat, -, Hpay⟩
  ihave Hp := (Entails.of_eq (rest_rv m c k)) $$ Hpay
  imod (Rounds.cell_close ER (sched m) (Set.mem_univ (K (c, iRv k))) (fun h => h) (R := 0 + 1) (duties_later m (rvCell c k))) $$ [Hat] with Hz
  · isplitr; · iapply (inv_at m K (c, iRv k)); iexact HR
    iexact Hat
  iapply Hk
  isplitr; · iexact HR
  isplitl [HO]; · iexists _; iexact HO
  isplitl [Hrest]; · iexact Hrest
  isplitl [Hp Hz]
  · isplitl [Hp]; · iexact Hp
    iexact Hz
  iexact Hdone

omit [FloatOps F] in
theorem slot_set (k : Fin 7) : (slotM k).view.set = (rSlot k).set := by
  unfold slotM
  exact (View.set_reshape _ _).trans (View.set_slice_whole _ _)

theorem slotPts_eq (k : Fin 7) (f : Buf (Elt F) ((c : Thread nD τ).loc cc0_scratch3)) :
    slotPts c k f = ((gatM.access (rSlot k)).loc (c : Thread nD τ) ↦[(rSlot k).set]{fullShare} f : sProp 𝕄) := by
  unfold slotPts; rw [slot_set]; rfl

/-- The load of slot `k` just received. -/
theorem step_load (k : Fin 7) {n : ℕ} (hn : n = k.val + 1) {off : Fin 3 → ℕ} (ho : off = ![k.val, 0, 0])
    {inb : ∀ a, off a + S1x2x512.size a ≤ S7x2x512.size a}
    {hl : gatM.view.LoadsAt (Rect.unit (s := S7x2x512) off S1x2x512.size inb).toLoadRect} {α : Type} {Q : α → sProp 𝕄}
    {kk : (S1x2x512.Idx → Elt F .f32) → Prog (TpuEff nD τ sig (Elt F) Λ₀ .tc) α} :
    atRecv m K c n
      ⊢ iprop((atRecv m K c n -∗ wp frame (wpE (defs₀ (F := F)) 𝒱₀ (c : Thread nD τ) none) Set.univ (kk (slotVal m c k)) Q)
          -∗ wp frame (wpE (defs₀ (F := F)) 𝒱₀ (c : Thread nD τ) none) Set.univ (.op (.load gatM (Rect.unit (s := S7x2x512) off S1x2x512.size inb).toLoadRect hl) kk) Q) := by
  subst hn ho
  unfold atRecv
  rw [bigSep_finUpTo_succ k.isLt]
  iintro ⟨#HR, HO, Hrest, ⟨Hs, Hz⟩, Hdone⟩ Hk
  have e := slotPts_eq c k (slotGot m c k)
  ihave Hs := (Entails.of_eq e) $$ Hs
  rw [e]
  iapply (wp_load_rect 𝒱₀ (c : Thread nD τ) none Set.univ (m := gatM) (r := rSlot k) (S := (rSlot k).set) (q := fullShare) (f := slotGot m c k) (View.set_slice_whole cc0_scratch3 (rSlot k)).le) $$ Hs
  iintro Hs
  iapply Hk
  isplitr; · iexact HR
  isplitl [HO]; · iexact HO
  isplitl [Hrest]; · iexact Hrest
  isplitl [Hs Hz]
  · isplitl [Hs]; · iexact Hs
    iexact Hz
  iexact Hdone

/-! ## The waits for the sends -/

/-- Before the wait for send `n`. -/
def atSent (n : ℕ) : sProp 𝕄 :=
  iprop(records m K ∗ owesE c 0
    ∗ (bigSep (finFrom 7 n) fun k : Fin 7 => iprop(cred (tallyAt (sdCell c k) () N) ∗ atPos ER (sdCell c k) 0 ∅ 0))
    ∗ bigSep (finUpTo 7 n) fun k : Fin 7 => iprop(accTok m c k ∗ semVal (sdCell c k) 0))

theorem step_sent (k : Fin 7) {n n' : ℕ} (hn : n = k.val) (hn' : n' = k.val + 1) {src : Memref sig .tc .vmem S2x512 .f32} {sem : DmaSem sig} (hq : sem = sdS k)
    {hsrc : src.view.WordExact} {hdst : (accM : Memref sig .tc .vmem S2x512 .f32).view.WordExact}
    {α : Type} {Q : α → sProp 𝕄} {kk : PUnit → Prog (TpuEff nD τ sig (Elt F) Λ₀ .tc) α} :
    atSent m K c n
      ⊢ iprop((atSent m K c n' -∗ wp frame (wpE (defs₀ (F := F)) 𝒱₀ (c : Thread nD τ) none) Set.univ (kk ⟨⟩) Q)
          -∗ wp frame (wpE (defs₀ (F := F)) 𝒱₀ (c : Thread nD τ) none) Set.univ (.op (.waitDma2 sem src accM hsrc hdst) kk) Q) := by
  subst hn hn' hq
  unfold atSent owesE
  rw [bigSep_finFrom_succ k.isLt, bigSep_finUpTo_succ k.isLt]
  iintro ⟨#HR, ⟨%W, HO⟩, ⟨⟨Hc, Hat⟩, Hrest⟩, Hdone⟩ Hk
  iapply (Rounds.wp_wait_rest_token 𝒱₀ ER (sched m) (c : Thread nD τ) none (κ := K (c, iSd k)) (sm := .dma (sdS k)) (k' := N)
      (wpE_waitDma2_eq 𝒱₀ (c : Thread nD τ) none Set.univ)
      (Set.mem_univ _) () (O := 0) (W := W) (R := 0) (m := 0) (T := ∅)
      (by rw [Nat.zero_add, expect_sd])) $$ [Hc HO Hat]
  · isplitr; · iapply (inv_at m K (c, iSd k)); iexact HR
    isplitl [Hc]; · iexact Hc
    isplitl [HO]; · iexact HO
    isplitr; · rw [MayWait_zero]; iempintro
    iexact Hat
  iintro ⟨HO, Hat, -, Hpay⟩
  ihave Hp := (Entails.of_eq (rest_sd m c k)) $$ Hpay
  imod (Rounds.cell_close ER (sched m) (Set.mem_univ (K (c, iSd k))) (fun h => h) (R := 0 + 1) (duties_later m (sdCell c k))) $$ [Hat] with Hz
  · isplitr; · iapply (inv_at m K (c, iSd k)); iexact HR
    iexact Hat
  iapply Hk
  isplitr; · iexact HR
  isplitl [HO]; · iexists _; iexact HO
  isplitl [Hrest]; · iexact Hrest
  isplitl [Hp Hz]
  · isplitl [Hp]; · iexact Hp
    iexact Hz
  iexact Hdone

end Cert.KernelIdealProof

end
-- ==== Proof.KernelIdealPieces.lean ====
/-
The buffers cut into the pieces the copies and the sends move, and joined back: the two inputs and their local copies
in halves by rows, the landing buffer in its seven slots, the sums in the shares the seven sends read.
-/
module

public import proofs.«01_k».proof.Proof.KernelIdealSteps
public import Idealize.ShloMosaic.Lib.Ring

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN pointsTo_toks_split pointsTo_toks_join)
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## Halves -/

theorem half_disjoint : Disjoint (rHalf 0).set (rHalf 2).set := by
  rw [Finset.disjoint_left]
  intro i h h'
  have h1 := (Rect.mem_set_unit.mp h 0).2
  have h2 := (Rect.mem_set_unit.mp h' 0).1
  have e1 : (![cpRow 0, 0] : Fin 2 → ℕ) 0 + S256x512.size 0 = 256 := rfl
  have e2 : (![cpRow 2, 0] : Fin 2 → ℕ) 0 = 256 := rfl
  omega

theorem half_cover : (rHalf 0).set ∪ (rHalf 2).set = Finset.univ := by
  ext i
  simp only [Finset.mem_union, Finset.mem_univ, iff_true, Rect.mem_set_unit]
  have b0 : (i 0 : ℕ) < 512 := (i 0).isLt
  have b1 : (i 1 : ℕ) < 512 := (i 1).isLt
  by_cases h : (i 0 : ℕ) < 256
  · left
    intro a
    fin_cases a
    · exact ⟨Nat.zero_le _, h⟩
    · exact ⟨Nat.zero_le _, by show (i 1 : ℕ) < 0 + 512; omega⟩
  · right
    intro a
    fin_cases a
    · exact ⟨by show 256 ≤ (i 0 : ℕ); omega, by show (i 0 : ℕ) < 256 + 256; omega⟩
    · exact ⟨Nat.zero_le _, by show (i 1 : ℕ) < 0 + 512; omega⟩

/-- The elements of one half of a whole buffer. -/
def halfPts {sp : Space} (b : Memref sig .tc sp S512x512 .f32) (i : Fin 4) (f : Buf (Elt F) (b.view.loc (c : Thread nD τ))) : sProp 𝕄 :=
  b.view.loc (c : Thread nD τ) ↦[(b.slice (rHalf i) (fun _ => rfl)).view.set]{fullShare} f

omit [FloatOps F] in
theorem whole_halves {sp : Space} (b : Memref sig .tc sp S512x512 .f32) (hb : b.view.set = Finset.univ)
    (f : Buf (Elt F) (b.view.loc (c : Thread nD τ))) :
    (b.view.loc (c : Thread nD τ) ↦{fullShare} f : sProp 𝕄) ⊣⊢ iprop(halfPts c b 0 f ∗ halfPts c b 2 f) := by
  unfold halfPts
  have e : ∀ i, (b.slice (rHalf i) (fun _ => rfl)).view.set = (rHalf i).set.map b.view.emb := fun i => View.set_slice b.view (rHalf i)
  rw [e, e, show (Finset.univ : Finset (Idx (b.view.loc (c : Thread nD τ)))) = (rHalf 0).set.map b.view.emb ∪ (rHalf 2).set.map b.view.emb by
    rw [← Finset.map_union, half_cover]; exact hb.symm]
  exact pointsTo_union ((Finset.disjoint_map _).mpr half_disjoint)

omit [FloatOps F] in
theorem halves_join {sp : Space} (b : Memref sig .tc sp S512x512 .f32) (hb : b.view.set = Finset.univ)
    (f g : Buf (Elt F) (b.view.loc (c : Thread nD τ))) :
    iprop(halfPts c b 0 f ∗ halfPts c b 2 g) ⊢ (iprop(∃ h, b.view.loc (c : Thread nD τ) ↦{fullShare} h) : sProp 𝕄) := by
  unfold halfPts
  have e : ∀ i, (b.slice (rHalf i) (fun _ => rfl)).view.set = (rHalf i).set.map b.view.emb := fun i => View.set_slice b.view (rHalf i)
  rw [e, e, show (Finset.univ : Finset (Idx (b.view.loc (c : Thread nD τ)))) = (rHalf 0).set.map b.view.emb ∪ (rHalf 2).set.map b.view.emb by
    rw [← Finset.map_union, half_cover]; exact hb.symm]
  iintro H
  iexists _
  iapply (pointsTo_join ((Finset.disjoint_map _).mpr half_disjoint)) $$ H

/-! ## The copies' sources and destinations, all four -/

omit [FloatOps F] in
theorem bigSep_four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

abbrev inPts : sProp 𝕄 :=
  iprop((((c : Thread nD τ).loc main_arg0) ↦{fullShare} m ((c : Thread nD τ).loc main_arg0)) ∗ (((c : Thread nD τ).loc main_arg1) ↦{fullShare} m ((c : Thread nD τ).loc main_arg1)))
/-- A buffer whole, at some contents. -/
abbrev somePts (b : Ref sig .tc) : sProp 𝕄 :=
  iprop(∃ f : Buf (Elt F) ((c : Thread nD τ).loc b), ((c : Thread nD τ).loc b) ↦{fullShare} f)

omit [FloatOps F] in
theorem srcs_split : (inPts m c : sProp 𝕄) ⊢ bigSep Finset.univ fun i : Fin 4 => srcPts m c i := by
  rw [bigSep_four]
  show _ ⊢ iprop(halfPts c xM 0 _ ∗ halfPts c dyM 0 _ ∗ halfPts c xM 2 _ ∗ halfPts c dyM 2 _)
  iintro ⟨Hx, Hd⟩
  ihave Hx := (whole_halves c xM (View.set_whole _) (m ((c : Thread nD τ).loc main_arg0))).1 $$ Hx
  ihave Hd := (whole_halves c dyM (View.set_whole _) (m ((c : Thread nD τ).loc main_arg1))).1 $$ Hd
  icases Hx with ⟨H0, H2⟩
  icases Hd with ⟨H1, H3⟩
  isplitl [H0]; · iexact H0
  isplitl [H1]; · iexact H1
  isplitl [H2]; · iexact H2
  iexact H3

omit [FloatOps F] in
theorem srcs_join : (bigSep Finset.univ fun i : Fin 4 => srcPts m c i : sProp 𝕄) ⊢ inPts m c := by
  rw [bigSep_four]
  show iprop(halfPts c xM 0 _ ∗ halfPts c dyM 0 _ ∗ halfPts c xM 2 _ ∗ halfPts c dyM 2 _) ⊢ _
  iintro ⟨H0, H1, H2, H3⟩
  isplitl [H0 H2]
  · iapply (whole_halves c xM (View.set_whole _) (m ((c : Thread nD τ).loc main_arg0))).2
    isplitl [H0]; · iexact H0
    iexact H2
  iapply (whole_halves c dyM (View.set_whole _) (m ((c : Thread nD τ).loc main_arg1))).2
  isplitl [H1]; · iexact H1
  iexact H3

omit [FloatOps F] in
theorem dsts_split : (iprop(somePts c cc0_scratch0 ∗ somePts c cc0_scratch1) : sProp 𝕄) ⊢ bigSep Finset.univ fun i : Fin 4 => iprop(∃ f, dstPts c i f) := by
  rw [bigSep_four]
  show _ ⊢ iprop((∃ f, halfPts c xvM 0 f) ∗ (∃ f, halfPts c dyvM 0 f) ∗ (∃ f, halfPts c xvM 2 f) ∗ ∃ f, halfPts c dyvM 2 f)
  iintro ⟨⟨%f, Hx⟩, ⟨%g, Hd⟩⟩
  ihave Hx := (whole_halves c xvM (View.set_whole _) f).1 $$ Hx
  ihave Hd := (whole_halves c dyvM (View.set_whole _) g).1 $$ Hd
  icases Hx with ⟨H0, H2⟩
  icases Hd with ⟨H1, H3⟩
  isplitl [H0]; · iexists f; iexact H0
  isplitl [H1]; · iexists g; iexact H1
  isplitl [H2]; · iexists f; iexact H2
  iexists g; iexact H3

omit [FloatOps F] in
theorem dsts_join (f : (i : Fin 4) → Buf (Elt F) ((cpDst i).view.loc (c : Thread nD τ))) :
    (bigSep Finset.univ fun i : Fin 4 => dstPts c i (f i) : sProp 𝕄) ⊢ iprop(somePts c cc0_scratch0 ∗ somePts c cc0_scratch1) := by
  rw [bigSep_four]
  show iprop(halfPts c xvM 0 (f 0) ∗ halfPts c dyvM 0 (f 1) ∗ halfPts c xvM 2 (f 2) ∗ halfPts c dyvM 2 (f 3)) ⊢ _
  iintro ⟨H0, H1, H2, H3⟩
  isplitl [H0 H2]
  · iapply (halves_join c xvM (View.set_whole _) (f 0) (f 2))
    isplitl [H0]; · iexact H0
    iexact H2
  iapply (halves_join c dyvM (View.set_whole _) (f 1) (f 3))
  isplitl [H1]; · iexact H1
  iexact H3

/-! ## Slots -/

theorem slot_disjoint (k k' : Fin 7) (h : k ≠ k') : Disjoint (rSlot k).set (rSlot k').set := by
  rw [Finset.disjoint_left]
  intro i h1 h2
  have a1 := Rect.mem_set_unit.mp h1 0
  have a2 := Rect.mem_set_unit.mp h2 0
  have e : ∀ k : Fin 7, (![k.val, 0, 0] : Fin 3 → ℕ) 0 = k.val := fun _ => rfl
  have e' : S1x2x512.size 0 = 1 := rfl
  rw [e, e'] at a1 a2
  exact h (Fin.ext (by omega))

theorem slot_cover : (Finset.univ.biUnion fun k : Fin 7 => (rSlot k).set) = Finset.univ := by
  ext i
  simp only [Finset.mem_biUnion, Finset.mem_univ, true_and, iff_true]
  have b0 : (i 0 : ℕ) < 7 := (i 0).isLt
  have b1 : (i 1 : ℕ) < 2 := (i 1).isLt
  have b2 : (i 2 : ℕ) < 512 := (i 2).isLt
  refine ⟨⟨(i 0 : ℕ), b0⟩, Rect.mem_set_unit.mpr fun a => ?_⟩
  fin_cases a
  · exact ⟨le_refl _, Nat.lt_succ_self _⟩
  · exact ⟨Nat.zero_le _, by show (i 1 : ℕ) < 0 + 2; omega⟩
  · exact ⟨Nat.zero_le _, by show (i 2 : ℕ) < 0 + 512; omega⟩

theorem some_slot (k : Fin 7) (f : Buf (Elt F) ((c : Thread nD τ).loc cc0_scratch3)) :
    (slotPts c k f : sProp 𝕄) ⊢ iprop(∃ f, slotPts c k f) := by
  iintro H; iexists f; iexact H

theorem slots_split : (somePts c cc0_scratch3 : sProp 𝕄) ⊢ bigSep Finset.univ fun j : Fin 7 => iprop(∃ f, slotPts c j.rev f) := by
  refine BIBase.Entails.trans ?_ (Entails.of_eq (BI.bigSep_univ_equiv Fin.revPerm (fun k : Fin 7 => (iprop(∃ f, slotPts c k f) : sProp 𝕄))))
  iintro ⟨%f, H⟩
  ihave H := (Entails.of_eq (Ring.pointsTo_blocks (fun k : Fin 7 => (rSlot k).set) slot_disjoint slot_cover f)) $$ H
  iapply (show (bigSep Finset.univ fun k : Fin 7 => (slotPts c k f : sProp 𝕄)) ⊢ bigSep Finset.univ fun k : Fin 7 => (iprop(∃ f, slotPts c k f) : sProp 𝕄)
    from BI.bigSep_mono fun k _ => some_slot c k f)
  have e : ∀ k, (slotPts c k f : sProp 𝕄) = (((c : Thread nD τ).loc cc0_scratch3) ↦[(rSlot k).set]{fullShare} f) := fun k => slotPts_eq c k f
  simp only [e]
  iexact H

theorem slots_join (f : Fin 7 → Buf (Elt F) ((c : Thread nD τ).loc cc0_scratch3)) :
    (bigSep Finset.univ fun k : Fin 7 => slotPts c k (f k) : sProp 𝕄) ⊢ somePts c cc0_scratch3 := by
  have e : ∀ k, (slotPts c k (f k) : sProp 𝕄) = (((c : Thread nD τ).loc cc0_scratch3) ↦[(rSlot k).set]{fullShare} f k) := fun k => slotPts_eq c k (f k)
  simp only [e]
  exact Ring.pointsTo_blocks_join (ℓ := (c : Thread nD τ).loc cc0_scratch3) (fun k : Fin 7 => (rSlot k).set) slot_disjoint slot_cover f (f 0)

/-! ## The sums -/

theorem acc_split : (((c : Thread nD τ).loc cc0_scratch2) ↦{fullShare} partSum m c : sProp 𝕄)
    ⊢ iprop(accKeep m c ∗ bigSep Finset.univ fun k : Fin 7 => accTok m c k) := by
  unfold accKeep accTok
  rw [View.set_whole]
  exact pointsTo_toks_split fullShare 7

theorem acc_join : (iprop(accKeep m c ∗ bigSep Finset.univ fun k : Fin 7 => accTok m c k) : sProp 𝕄) ⊢ somePts c cc0_scratch2 := by
  unfold accKeep accTok
  rw [View.set_whole]
  iintro H
  iexists (partSum m c)
  iapply (pointsTo_toks_join fullShare 7) $$ H

end Cert.KernelIdealProof

end
-- ==== Proof.KernelIdealBody.lean ====
/-
The kernel's body on one device, run from what the launch gives it: one step lemma for each effect, in program order.
-/
module

public import proofs.«01_k».proof.Proof.KernelIdealPieces
public import proofs.«01_k».proof.Proof.Gen.KernelIdeal.Points

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN pointsTo_toks_split pointsTo_toks_join)
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Sem sig → ℕ)

/-! ## What the body starts from and what it leaves -/

abbrev zeros (c : Dev nD) : sProp 𝕄 :=
  iprop((bigSep Finset.univ fun i : Fin 4 => semVal (cpCell c i) 0) ∗ (bigSep Finset.univ fun k : Fin 7 => semVal (sdCell c k) 0)
    ∗ bigSep Finset.univ fun k : Fin 7 => semVal (rvCell c k) 0)

/-- Device `c`'s positions in its own cells, and the duty tokens it pays with. -/
def linear (c : Dev nD) : sProp 𝕄 :=
  iprop((atPos ER (barCell c) 0 ∅ 0 ∗ (bigSep Finset.univ fun i : Fin 4 => atPos ER (cpCell c i) 0 ∅ 0)
      ∗ (bigSep Finset.univ fun k : Fin 7 => atPos ER (sdCell c k) 0 ∅ 0) ∗ bigSep Finset.univ fun k : Fin 7 => atPos ER (rvCell c k) 0 ∅ 0)
    ∗ (bigSep Finset.univ fun j : Fin 7 => dutyTok ER (barCell (peer c j)) 0 j.rev)
    ∗ (bigSep Finset.univ fun i : Fin 4 => dutyTok ER (cpCell c i) 0 0)
    ∗ (bigSep Finset.univ fun k : Fin 7 => dutyTok ER (sdCell c k) 0 0)
    ∗ bigSep Finset.univ fun k : Fin 7 => dutyTok ER (rvCell (peer c k) k) 0 0)

/-- The credits the launch leaves device `c`: the seven signals it will get, the seven transfers it will get. -/
def creds (c : Dev nD) : sProp 𝕄 :=
  iprop(cred (tallyAt (barCell c) () 7) ∗ bigSep Finset.univ fun k : Fin 7 => cred (tallyAt (rvCell c k) () N))

def start (c : Dev nD) : sProp 𝕄 :=
  iprop((∃ K, records m K ∗ linear c) ∗ creds c ∗ levAts L lv ∗ inPts m c)

abbrev scratch (c : Dev nD) : sProp 𝕄 :=
  iprop(somePts c cc0_scratch0 ∗ somePts c cc0_scratch1 ∗ somePts c cc0_scratch2 ∗ somePts c cc0_scratch3)

def Φ₀ (c : Dev nD) : sProp 𝕄 := iprop(start m c ∗ scratch c)
def Φ₁ (c : Dev nD) : sProp 𝕄 := iprop(scratch c ∗ zeros c ∗ semVal (barCell c) 0 ∗ inPts m c)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## Whole-buffer accesses of the sums and of the result -/

abbrev rAll : Rect S2x512 := Rect.unit (s := S2x512) ![0, 0] S2x512.size inb_S2x512_S2x512_0_0

omit [FloatOps F] in
theorem hz : (![0, 0] : Fin 2 → Nat) = fun _ => 0 := funext fun a => by fin_cases a <;> rfl
omit [FloatOps F] in
theorem read_acc (f : (cc0_scratch2 : Ref sig .tc).ty.Contents (Elt F)) : accM.view.readAt (Elt F) rAll.toLoadRect f = f :=
  Memref.readAt_unit_zero (Elt F) cc0_scratch2 hz _ f
omit [FloatOps F] in
theorem write_acc (f w : (cc0_scratch2 : Ref sig .tc).ty.Contents (Elt F)) :
    ((accM : Memref sig .tc .vmem S2x512 .f32).access rAll : View sig .tc _ _ _).write (Elt F) f w Finset.univ = w :=
  Memref.write_access_unit_zero_univ (Elt F) cc0_scratch2 hz _ f w
omit [FloatOps F] in
theorem write_out (f w : (cc0_stg0_0 : Ref sig .tc).ty.Contents (Elt F)) :
    ((outM : Memref sig .tc .vmem S2x512 .f32).access rAll : View sig .tc _ _ _).write (Elt F) f w Finset.univ = w :=
  Memref.write_access_unit_zero_univ (Elt F) cc0_stg0_0 hz _ f w

/-- The load of the sums while the sends read them too. -/
theorem step_acc (c : Dev nD) {hl : accM.view.LoadsAt rAll.toLoadRect} {α : Type} {Q : α → sProp 𝕄}
    {kk : (S2x512.Idx → Elt F .f32) → Prog (TpuEff nD τ sig (Elt F) Λ₀ .tc) α} :
    accKeep m c
      ⊢ iprop((accKeep m c -∗ wp frame (wpE (defs₀ (F := F)) 𝒱₀ (c : Thread nD τ) none) Set.univ (kk (partSum m c)) Q)
          -∗ wp frame (wpE (defs₀ (F := F)) 𝒱₀ (c : Thread nD τ) none) Set.univ (.op (.load accM rAll.toLoadRect hl) kk) Q) := by
  unfold accKeep
  iintro H Hk
  iapply (wp_load 𝒱₀ (c : Thread nD τ) none Set.univ (m := accM) (by rw [View.set_whole]; exact Finset.subset_univ _)) $$ H
  iintro H
  rw [read_acc]
  iapply Hk; iexact H

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

/-! ## The body -/

section Body

variable (K : Dev nD × CIx → ℕ) (c : Dev nD)

def bodyPre : sProp 𝕄 :=
  iprop(records m K ∗ linear c ∗ creds c ∗ levAts L lv ∗ inPts m c ∗ scratch c ∗ owesE c (O₀ c) ∗ somePts c cc0_stg0_0)

def bodyPost : sProp 𝕄 :=
  iprop(Φ₁ m c ∗ owesE c 0 ∗ stg c cc0_stg0_0 (outAt m c))

omit [FloatOps F] in
/-- Two families side by side are the family of the pairs. -/
theorem pair_in {I : Type} (s : Finset I) (A B : I → sProp 𝕄) : iprop(bigSep s A ∗ bigSep s B) ⊢ bigSep s fun i => iprop(A i ∗ B i) :=
  Entails.of_eq (BI.bigSep_sep s A B).symm
omit [FloatOps F] in
theorem pair_out {I : Type} (s : Finset I) (A B : I → sProp 𝕄) : (bigSep s fun i => iprop(A i ∗ B i)) ⊢ iprop(bigSep s A ∗ bigSep s B) :=
  Entails.of_eq (BI.bigSep_sep s A B)

theorem atSignal_intro : iprop(records m K ∗ owesE c (O₀ c) ∗ (bigSep Finset.univ fun j : Fin 7 => dutyTok ER (barCell (peer c j)) 0 j.rev) ∗ somePts c cc0_scratch3)
    ⊢ atSignal m K c 0 := by
  unfold atSignal
  rw [bigSep_finFrom_zero]
  iintro ⟨#HR, HO, Ht, Hs⟩
  isplitr; · iexact HR
  isplitl [HO]; · iexact HO
  iapply (pair_in Finset.univ (fun j : Fin 7 => (dutyTok ER (barCell (peer c j)) 0 j.rev : sProp 𝕄)) (fun j => iprop(∃ f, slotPts c j.rev f)))
  isplitl [Ht]; · iexact Ht
  iapply (slots_split c); iexact Hs

theorem atSignal_elim : atSignal m K c 7 ⊢ owesE c (owR c 0) := by
  unfold atSignal
  rw [owB_end, add_zero]
  iintro ⟨-, H, -⟩; iexact H

theorem atCopy_intro : iprop(records m K ∗ (bigSep Finset.univ fun i : Fin 4 => dutyTok ER (cpCell c i) 0 0) ∗ inPts m c ∗ somePts c cc0_scratch0 ∗ somePts c cc0_scratch1)
    ⊢ atCopy m K c 0 := by
  unfold atCopy
  rw [bigSep_finFrom_zero, bigSep_finUpTo_zero]
  iintro ⟨#HR, Ht, Hin, Hd⟩
  isplitr; · iexact HR
  isplitl
  · iapply (pair_in Finset.univ (fun i : Fin 4 => (dutyTok ER (cpCell c i) 0 0 : sProp 𝕄)) (fun i => iprop(srcPts m c i ∗ ∃ f, dstPts c i f)))
    isplitl [Ht]; · iexact Ht
    iapply (pair_in Finset.univ (fun i : Fin 4 => (srcPts m c i : sProp 𝕄)) (fun i => iprop(∃ f, dstPts c i f)))
    isplitl [Hin]; · iapply (srcs_split m c); iexact Hin
    iapply (dsts_split c); iexact Hd
  iempintro

theorem atCopied_intro : iprop(atCopy m K c 4 ∗ levAts L lv ∗ owesE c (owR c 0) ∗ bigSep Finset.univ fun i : Fin 4 => atPos ER (cpCell c i) 0 ∅ 0)
    ⊢ atCopied m K c 0 := by
  unfold atCopy atCopied
  rw [bigSep_finFrom_zero, bigSep_finUpTo_zero, bigSep_finFrom_self, bigSep_finUpTo_self]
  iintro ⟨⟨#HR, -, Hc⟩, #HL, HO, Hat⟩
  isplitr; · iexact HR
  isplitr; · iexact HL
  isplitl [HO]; · iexact HO
  isplitl
  · iapply (pair_in Finset.univ (fun i : Fin 4 => (cred (tallyAt (cpCell c i) () NC) : sProp 𝕄)) (fun i => atPos ER (cpCell c i) 0 ∅ 0))
    isplitl [Hc]; · iexact Hc
    iexact Hat
  iempintro

theorem atCopied_elim : atCopied m K c 4
    ⊢ iprop(owesE c (owR c 0) ∗ (bigSep Finset.univ fun i : Fin 4 => semVal (cpCell c i) 0) ∗ somePts c cc0_scratch0 ∗ somePts c cc0_scratch1 ∗ inPts m c) := by
  unfold atCopied
  rw [bigSep_finUpTo_self]
  iintro ⟨-, -, HO, -, H⟩
  ihave H := (pair_out Finset.univ (fun i : Fin 4 => (semVal (cpCell c i) 0 : sProp 𝕄)) (fun i => iprop(dstPts c i (cpGot m c i) ∗ srcPts m c i))) $$ H
  icases H with ⟨Hz, H⟩
  ihave H := (pair_out Finset.univ (fun i : Fin 4 => (dstPts c i (cpGot m c i) : sProp 𝕄)) (fun i => srcPts m c i)) $$ H
  icases H with ⟨Hd, Hs⟩
  ihave Hd := (dsts_join c (fun i => cpGot m c i)) $$ Hd
  icases Hd with ⟨H0, H1⟩
  isplitl [HO]; · iexact HO
  isplitl [Hz]; · iexact Hz
  isplitl [H0]; · iexact H0
  isplitl [H1]; · iexact H1
  iapply (srcs_join m c); iexact Hs

theorem atSend_intro : iprop(records m K ∗ owesE c (owR c 0) ∗ (bigSep Finset.univ fun k : Fin 7 => dutyTok ER (sdCell c k) 0 0)
      ∗ (bigSep Finset.univ fun k : Fin 7 => dutyTok ER (rvCell (peer c k) k) 0 0)
      ∗ (bigSep Finset.univ fun k : Fin 7 => iprop(∃ f, slotPts (F := F) (peer c k) k f)) ∗ bigSep Finset.univ fun k : Fin 7 => accTok m c k)
    ⊢ atSend m K c 0 := by
  unfold atSend
  rw [bigSep_finFrom_zero, bigSep_finUpTo_zero]
  iintro ⟨#HR, HO, Ht, Hr, Hs, Ha⟩
  isplitr; · iexact HR
  isplitl [HO]; · iexact HO
  isplitl
  · iapply (pair_in Finset.univ (fun k : Fin 7 => (iprop(dutyTok ER (sdCell c k) 0 0 ∗ dutyTok ER (rvCell (peer c k) k) 0 0) : sProp 𝕄))
      (fun k => iprop((∃ f, slotPts (peer c k) k f) ∗ accTok m c k)))
    isplitl [Ht Hr]
    · iapply (pair_in Finset.univ (fun k : Fin 7 => (dutyTok ER (sdCell c k) 0 0 : sProp 𝕄)) (fun k => dutyTok ER (rvCell (peer c k) k) 0 0))
      isplitl [Ht]; · iexact Ht
      iexact Hr
    iapply (pair_in Finset.univ (fun k : Fin 7 => (iprop(∃ f, slotPts (peer c k) k f) : sProp 𝕄)) (fun k => accTok m c k))
    isplitl [Hs]; · iexact Hs
    iexact Ha
  iempintro

theorem atRecv_intro : iprop(atSend m K c 7 ∗ (bigSep Finset.univ fun k : Fin 7 => cred (tallyAt (rvCell c k) () N)) ∗ bigSep Finset.univ fun k : Fin 7 => atPos ER (rvCell c k) 0 ∅ 0)
    ⊢ iprop(atRecv m K c 0 ∗ bigSep Finset.univ fun k : Fin 7 => cred (tallyAt (sdCell c k) () N)) := by
  unfold atSend atRecv
  rw [bigSep_finFrom_zero, bigSep_finUpTo_zero, bigSep_finFrom_self, bigSep_finUpTo_self, owR_end]
  iintro ⟨⟨#HR, HO, -, Hcs⟩, Hc, Hat⟩
  isplitr [Hcs]
  · isplitr; · iexact HR
    isplitl [HO]; · iexact HO
    isplitl
    · iapply (pair_in Finset.univ (fun k : Fin 7 => (cred (tallyAt (rvCell c k) () N) : sProp 𝕄)) (fun k => atPos ER (rvCell c k) 0 ∅ 0))
      isplitl [Hc]; · iexact Hc
      iexact Hat
    iempintro
  iexact Hcs

theorem atRecv_elim : atRecv m K c 7 ⊢ iprop(owesE c 0 ∗ somePts c cc0_scratch3 ∗ bigSep Finset.univ fun k : Fin 7 => semVal (rvCell c k) 0) := by
  unfold atRecv
  rw [bigSep_finUpTo_self]
  iintro ⟨-, HO, -, H⟩
  ihave H := (pair_out Finset.univ (fun k : Fin 7 => (slotPts c k (slotGot m c k) : sProp 𝕄)) (fun k => semVal (rvCell c k) 0)) $$ H
  icases H with ⟨Hs, Hz⟩
  isplitl [HO]; · iexact HO
  isplitl [Hs]; · iapply (slots_join c (fun k => slotGot m c k)); iexact Hs
  iexact Hz

theorem atSent_intro : iprop(records m K ∗ owesE c 0 ∗ (bigSep Finset.univ fun k : Fin 7 => cred (tallyAt (sdCell c k) () N)) ∗ bigSep Finset.univ fun k : Fin 7 => atPos ER (sdCell c k) 0 ∅ 0)
    ⊢ atSent m K c 0 := by
  unfold atSent
  rw [bigSep_finFrom_zero, bigSep_finUpTo_zero]
  iintro ⟨#HR, HO, Hc, Hat⟩
  isplitr; · iexact HR
  isplitl [HO]; · iexact HO
  isplitl
  · iapply (pair_in Finset.univ (fun k : Fin 7 => (cred (tallyAt (sdCell c k) () N) : sProp 𝕄)) (fun k => atPos ER (sdCell c k) 0 ∅ 0))
    isplitl [Hc]; · iexact Hc
    iexact Hat
  iempintro

theorem atSent_elim : iprop(atSent m K c 7 ∗ accKeep m c) ⊢ iprop(owesE c 0 ∗ somePts c cc0_scratch2 ∗ bigSep Finset.univ fun k : Fin 7 => semVal (sdCell c k) 0) := by
  unfold atSent
  rw [bigSep_finUpTo_self]
  iintro ⟨⟨-, HO, -, H⟩, Hk⟩
  ihave H := (pair_out Finset.univ (fun k : Fin 7 => (accTok m c k : sProp 𝕄)) (fun k => semVal (sdCell c k) 0)) $$ H
  icases H with ⟨Hs, Hz⟩
  isplitl [HO]; · iexact HO
  isplitl [Hs Hk]
  · iapply (acc_join m c)
    isplitl [Hk]; · iexact Hk
    iexact Hs
  iexact Hz

set_option maxHeartbeats 4000000 in
set_option maxRecDepth 10000 in
/-- The body, one rule for each effect in program order. -/
theorem sound_body (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole main_arg1) (Memref.isWhole_whole _) (Memref.whole cc0_stg0_0) (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) cc0_scratch4 cc0_scratch5 cc0_scratch6) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, Prog.bind_assoc, wp_deviceId]
  unfold bodyPre linear creds
  iintro ⟨⟨#HR, ⟨⟨HaB, HaC, HaS, HaR⟩, HtB, HtC, HtS, HtR⟩, ⟨HcB, HcR⟩, #HL, Hin, ⟨H0, H1, H2, H3⟩, HO, ⟨%d, Hout⟩⟩, Hk⟩
  -- the seven signals
  ihave St := (atSignal_intro m K c) $$ [HO HtB H3]
  · isplitr; · iexact HR
    isplitl [HO]; · iexact HO
    isplitl [HtB]; · iexact HtB
    iexact H3
  iapply (step_signal m K c 0 (n := 0) (n' := 1) rfl rfl _ (Fin.ext (k0_dev1_eq c)) _ (by decide)) $$ St; iintro St
  iapply (step_signal m K c 1 (n := 1) (n' := 2) rfl rfl _ (Fin.ext (k0_dev2_eq c)) _ (by decide)) $$ St; iintro St
  iapply (step_signal m K c 2 (n := 2) (n' := 3) rfl rfl _ (Fin.ext (k0_dev3_eq c)) _ (by decide)) $$ St; iintro St
  iapply (step_signal m K c 3 (n := 3) (n' := 4) rfl rfl _ (Fin.ext (k0_dev4_eq c)) _ (by decide)) $$ St; iintro St
  iapply (step_signal m K c 4 (n := 4) (n' := 5) rfl rfl _ (Fin.ext (k0_dev5_eq c)) _ (by decide)) $$ St; iintro St
  iapply (step_signal m K c 5 (n := 5) (n' := 6) rfl rfl _ (Fin.ext (k0_dev6_eq c)) _ (by decide)) $$ St; iintro St
  iapply (step_signal m K c 6 (n := 6) (n' := 7) rfl rfl _ (Fin.ext (k0_dev7_eq c)) _ (by decide)) $$ St; iintro St
  ihave HO := (atSignal_elim m K c) $$ St
  -- the four copies
  ihave St := (atCopy_intro m K c) $$ [HtC Hin H0 H1]
  · isplitr; · iexact HR
    isplitl [HtC]; · iexact HtC
    isplitl [Hin]; · iexact Hin
    isplitl [H0]; · iexact H0
    iexact H1
  iapply (step_copy m K c 0 (n := 0) (n' := 1) rfl rfl rfl rfl rfl) $$ St; iintro St
  iapply (step_copy m K c 1 (n := 1) (n' := 2) rfl rfl rfl rfl rfl) $$ St; iintro St
  iapply (step_copy m K c 2 (n := 2) (n' := 3) rfl rfl rfl rfl rfl) $$ St; iintro St
  iapply (step_copy m K c 3 (n := 3) (n' := 4) rfl rfl rfl rfl rfl) $$ St; iintro St
  ihave St := (atCopied_intro m K c) $$ [St HO HaC]
  · isplitl [St]; · iexact St
    isplitr; · iexact HL
    isplitl [HO]; · iexact HO
    iexact HaC
  iapply (step_copied m K c 0 (n := 0) (n' := 1) rfl rfl rfl rfl) $$ St; iintro St
  iapply (step_copied m K c 1 (n := 1) (n' := 2) rfl rfl rfl rfl) $$ St; iintro St
  iapply (step_half m K c 0 2 (by decide) rfl rfl) $$ St; iintro St
  iapply (step_half m K c 1 2 (by decide) rfl rfl) $$ St; iintro St
  iapply (step_copied m K c 2 (n := 2) (n' := 3) rfl rfl rfl rfl) $$ St; iintro St
  iapply (step_copied m K c 3 (n := 3) (n' := 4) rfl rfl rfl rfl) $$ St; iintro St
  iapply (step_half m K c 2 4 (by decide) rfl rfl) $$ St; iintro St
  iapply (step_half m K c 3 4 (by decide) rfl rfl) $$ St; iintro St
  ihave St := (atCopied_elim m K c) $$ St
  icases St with ⟨HO, HzC, H0, H1, Hin⟩
  -- the sums, stored
  icases H2 with ⟨%g, H2⟩
  iapply (wp_load 𝒱₀ (c : Thread nD τ) none Set.univ (m := accM) (Finset.subset_univ _)) $$ H2; iintro H2
  iapply (wp_store 𝒱₀ (c : Thread nD τ) none Set.univ (m := accM) (r := rAll) (Mk := Finset.univ) (Finset.subset_univ _)) $$ H2; iintro H2
  rw [write_acc]
  ihave H2 := (show ((accM.access rAll).loc (c : Thread nD τ) ↦{fullShare} k0_pay2 (k0_pay1 (cpVal m c 0) (cpVal m c 1)) (cpVal m c 2) (cpVal m c 3) : sProp 𝕄) ⊢ _
    from acc_split m c) $$ H2
  icases H2 with ⟨Hkeep, Htoks⟩
  -- the barrier
  iapply (step_barrier m K c _ (by decide)) $$ [HO HcB HaB]
  · isplitr; · iexact HR
    isplitr; · iexact HL
    isplitl [HO]; · iexact HO
    isplitl [HcB]; · iexact HcB
    iexact HaB
  iintro ⟨HO, HzB, Hslots⟩
  -- the seven sends
  ihave St := (atSend_intro m K c) $$ [HO HtS HtR Hslots Htoks]
  · isplitr; · iexact HR
    isplitl [HO]; · iexact HO
    isplitl [HtS]; · iexact HtS
    isplitl [HtR]; · iexact HtR
    isplitl [Hslots]; · iexact Hslots
    iexact Htoks
  iapply (step_send m K c 0 (n := 0) (n' := 1) rfl rfl _ (Fin.ext (k0_dev8_eq c)) rfl rfl rfl) $$ St; iintro St
  iapply (step_send m K c 1 (n := 1) (n' := 2) rfl rfl _ (Fin.ext (k0_dev9_eq c)) rfl rfl rfl) $$ St; iintro St
  iapply (step_send m K c 2 (n := 2) (n' := 3) rfl rfl _ (Fin.ext (k0_dev10_eq c)) rfl rfl rfl) $$ St; iintro St
  iapply (step_send m K c 3 (n := 3) (n' := 4) rfl rfl _ (Fin.ext (k0_dev11_eq c)) rfl rfl rfl) $$ St; iintro St
  iapply (step_send m K c 4 (n := 4) (n' := 5) rfl rfl _ (Fin.ext (k0_dev12_eq c)) rfl rfl rfl) $$ St; iintro St
  iapply (step_send m K c 5 (n := 5) (n' := 6) rfl rfl _ (Fin.ext (k0_dev13_eq c)) rfl rfl rfl) $$ St; iintro St
  iapply (step_send m K c 6 (n := 6) (n' := 7) rfl rfl _ (Fin.ext (k0_dev14_eq c)) rfl rfl rfl) $$ St; iintro St
  ihave St := (atRecv_intro m K c) $$ [St HcR HaR]
  · isplitl [St]; · iexact St
    isplitl [HcR]; · iexact HcR
    iexact HaR
  icases St with ⟨St, HcS⟩
  iapply (step_acc m c) $$ Hkeep; iintro Hkeep
  -- the seven receives, each slot loaded after its own
  iapply (step_recv m K c 0 (n := 0) (n' := 1) rfl rfl rfl rfl) $$ St; iintro St
  iapply (step_load m K c 0 (n := 1) rfl rfl) $$ St; iintro St
  iapply (step_recv m K c 1 (n := 1) (n' := 2) rfl rfl rfl rfl) $$ St; iintro St
  iapply (step_load m K c 1 (n := 2) rfl rfl) $$ St; iintro St
  iapply (step_recv m K c 2 (n := 2) (n' := 3) rfl rfl rfl rfl) $$ St; iintro St
  iapply (step_load m K c 2 (n := 3) rfl rfl) $$ St; iintro St
  iapply (step_recv m K c 3 (n := 3) (n' := 4) rfl rfl rfl rfl) $$ St; iintro St
  iapply (step_load m K c 3 (n := 4) rfl rfl) $$ St; iintro St
  iapply (step_recv m K c 4 (n := 4) (n' := 5) rfl rfl rfl rfl) $$ St; iintro St
  iapply (step_load m K c 4 (n := 5) rfl rfl) $$ St; iintro St
  iapply (step_recv m K c 5 (n := 5) (n' := 6) rfl rfl rfl rfl) $$ St; iintro St
  iapply (step_load m K c 5 (n := 6) rfl rfl) $$ St; iintro St
  iapply (step_recv m K c 6 (n := 6) (n' := 7) rfl rfl rfl rfl) $$ St; iintro St
  iapply (step_load m K c 6 (n := 7) rfl rfl) $$ St; iintro St
  ihave St := (atRecv_elim m K c) $$ St
  icases St with ⟨HO, H3, HzR⟩
  -- the seven sends waited for
  ihave St := (atSent_intro m K c) $$ [HO HcS HaS]
  · isplitr; · iexact HR
    isplitl [HO]; · iexact HO
    isplitl [HcS]; · iexact HcS
    iexact HaS
  iapply (step_sent m K c 0 (n := 0) (n' := 1) rfl rfl rfl) $$ St; iintro St
  iapply (step_sent m K c 1 (n := 1) (n' := 2) rfl rfl rfl) $$ St; iintro St
  iapply (step_sent m K c 2 (n := 2) (n' := 3) rfl rfl rfl) $$ St; iintro St
  iapply (step_sent m K c 3 (n := 3) (n' := 4) rfl rfl rfl) $$ St; iintro St
  iapply (step_sent m K c 4 (n := 4) (n' := 5) rfl rfl rfl) $$ St; iintro St
  iapply (step_sent m K c 5 (n := 5) (n' := 6) rfl rfl rfl) $$ St; iintro St
  iapply (step_sent m K c 6 (n := 6) (n' := 7) rfl rfl rfl) $$ St; iintro St
  ihave St := (atSent_elim m K c) $$ [St Hkeep]
  · isplitl [St]; · iexact St
    iexact Hkeep
  icases St with ⟨HO, H2, HzS⟩
  -- the result, stored
  iapply (wp_load 𝒱₀ (c : Thread nD τ) none Set.univ (m := outM) (Finset.subset_univ _)) $$ Hout; iintro Hout
  iapply (wp_store 𝒱₀ (c : Thread nD τ) none Set.univ (m := outM) (r := rAll) (Mk := Finset.univ) (Finset.subset_univ _)) $$ Hout; iintro Hout
  rw [write_out, wp_ret]; imodintro
  iapply Hk
  unfold bodyPost Φ₁
  isplitr [HO Hout]
  · isplitl [H0 H1 H2 H3]
    · isplitl [H0]; · iexact H0
      isplitl [H1]; · iexact H1
      isplitl [H2]; · iexact H2
      iexact H3
    isplitl [HzC HzS HzR]
    · isplitl [HzC]; · iexact HzC
      isplitl [HzS]; · iexact HzS
      iexact HzR
    isplitl [HzB]; · iexact HzB
    iexact Hin
  isplitl [HO]; · iexact HO
  iexists _; isplitr; · (ipureintro; rfl)
  iexact Hout

def bodyPre' : sProp 𝕄 :=
  iprop(Φ₀ m c ∗ (dats m 0 c).owesAt () t0_0.castSucc ∗ (∃ d, stg c cc0_stg0_0 ((dats m 0 c).before (0 : Fin 1) t0_0 d)))
def bodyPost' : sProp 𝕄 :=
  iprop(Φ₁ m c ∗ (dats m 0 c).owesAt () t0_0.succ ∗ stg c cc0_stg0_0 (outAt m c))

/-- The library's body obligation on device `c`. -/
theorem body_obligation : BodyObligation (dats (F := F) m 0 c) (defs₀ (F := F)) 𝒱₀ () Set.univ := fun t => by
  rw [fin_N0 t]
  rw [show ∀ Φ : Fin cfg0.W → sProp 𝕄, bigSep Finset.univ Φ = iprop(Φ (0 : Fin 1)) from fun Φ => bigSep_W0 Φ,
    show ∀ Φ : Fin cfg0.W → sProp 𝕄, bigSep Finset.univ Φ = iprop(Φ (0 : Fin 1)) from fun Φ => bigSep_W0 Φ]
  simp only [owns_whole_eq]
  show bodyPre' m c ⊢ wp frame (wpE (defs₀ (F := F)) 𝒱₀ c none) Set.univ
    (cc0_body (Memref.whole main_arg0) (Memref.isWhole_whole _) (Memref.whole main_arg1) (Memref.isWhole_whole _) (Memref.whole cc0_stg0_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) cc0_scratch4 cc0_scratch5 cc0_scratch6) (fun _ => bodyPost' m c)
  unfold bodyPre' Φ₀ start
  iintro ⟨⟨⟨⟨%K, Hr, Hl⟩, Hc, HL, Hin⟩, Hscr⟩, Ho, ⟨%d, %g, %hg, Hout⟩⟩
  unfold Dat.owesAt Pipeline.owesWithin
  icases Ho with ⟨%W, %hW, HO⟩
  rw [show (dats m 0 c).owed t0_0.castSucc = O₀ c from rfl]
  iapply (sound_body m K c fun _ => bodyPost' m c)
  unfold bodyPre owesE
  isplitr []
  · isplitl [Hr]; · iexact Hr
    isplitl [Hl]; · iexact Hl
    isplitl [Hc]; · iexact Hc
    isplitl [HL]; · iexact HL
    isplitl [Hin]; · iexact Hin
    isplitl [Hscr]; · iexact Hscr
    isplitl [HO]; · iexists W; iexact HO
    iexists g; iexact Hout
  unfold bodyPost bodyPost' Dat.owesAt Pipeline.owesWithin owesE
  rw [show (dats m 0 c).owed t0_0.succ = 0 from rfl]
  iintro ⟨HΦ, ⟨%W', HO⟩, Hout⟩
  isplitl [HΦ]; · iexact HΦ
  isplitl [HO]
  · iexists W'
    isplitr; · ipureintro; exact fun _ _ => Or.inl trivial
    iexact HO
  iexact Hout

end Body

end Cert.KernelIdealProof

end
-- ==== Proof.KernelIdealRun.lean ====
/-
The launch: the cells funded, their invariants made, the tokens dealt around the devices, the credits counted; and the run
of the whole program — every device's result array at the computed sums, its inputs unchanged, every semaphore at zero.
-/
module

public import proofs.«01_k».proof.Proof.KernelIdealBody
public import Idealize.ShloMosaic.Lib.Quiescent
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareDrop shareTok shareTokN pointsTo_toks_split pointsTo_toks_join)
open Idealize.ShloMosaic.SparseCore.ProtocolKit
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The launch state: memory `m`, every counter at zero. -/
abbrev s₀ : MemSt nD τ sig (Elt F) := ⟨m, fun _ => 0, ρ⟩

/-- The kernel's own semaphores: the copies', the sends', the receives'. -/
abbrev osem (k : Fin 4 ⊕ (Fin 7 ⊕ Fin 7)) : SemLoc sig := csem (.inr k)

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide

theorem kcell_injective : Function.Injective (kcell : Dev nD × CIx → GSem nD τ sig) := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- The duties of a device's cells: seven at the barrier's, one at every other. -/
abbrev TIx : Type := Fin 7 ⊕ (Fin 4 ⊕ (Fin 7 ⊕ Fin 7))
def tsem : TIx → CIx × Fin 7
  | .inl j => (iBar, j)
  | .inr k => (.inr k, 0)
theorem tsem_injective : Function.Injective tsem := by decide

def tokOf (ct : Dev nD × TIx) : GSem nD τ sig × ℕ × Fin 7 := (kcell (ct.1, (tsem ct.2).1), 0, (tsem ct.2).2)
theorem tokOf_injective : Function.Injective tokOf := by
  rintro ⟨c, t⟩ ⟨c', t'⟩ h
  have h1 := kcell_injective (congrArg (fun x : GSem nD τ sig × ℕ × Fin 7 => x.1) h)
  have h2 : (tsem t).2 = (tsem t').2 := congrArg (fun x : GSem nD τ sig × ℕ × Fin 7 => x.2.2) h
  have h3 : c = c' := congrArg Prod.fst h1
  have h4 : (tsem t).1 = (tsem t').1 := congrArg Prod.snd h1
  rw [h3, tsem_injective (Prod.ext h4 h2)]
def allToks : Finset (GSem nD τ sig × ℕ × Fin 7) := Finset.univ.map ⟨tokOf, tokOf_injective⟩

def u₀ : UU :=
  (initOf (Pipeline.cells cfgs cellOf_inj) (Pipeline.launchToks cfgs cellOf_inj), initOf allCells allToks)

/-- The duty tokens of device `c`'s own cells. -/
def toks (c : Dev nD) : sProp 𝕄 :=
  iprop((bigSep Finset.univ fun j : Fin 7 => dutyTok ER (barCell c) 0 j) ∗ (bigSep Finset.univ fun i : Fin 4 => dutyTok ER (cpCell c i) 0 (0 : Fin 7))
    ∗ (bigSep Finset.univ fun k : Fin 7 => dutyTok ER (sdCell c k) 0 (0 : Fin 7)) ∗ bigSep Finset.univ fun k : Fin 7 => dutyTok ER (rvCell c k) 0 (0 : Fin 7))

/-- What the launch deals device `c`. -/
def G (c : Dev nD) : sProp 𝕄 :=
  iprop((bigSep Finset.univ fun k : CIx => roundState ER (sched m) (kcell (c, k)) 0)
    ∗ (bigSep Finset.univ fun k : CIx => iprop(atPos ER (kcell (c, k)) 0 ∅ 0 ∗ reached ER (kcell (c, k)) 0)) ∗ toks c)

/-- What the global step makes of it. -/
def G' (c : Dev nD) : sProp 𝕄 := iprop(∃ K, records m K ∗ linear c)

theorem bigSep_TIx (Φ : TIx → sProp 𝕄) : bigSep Finset.univ Φ
    = iprop((bigSep Finset.univ fun j => Φ (.inl j)) ∗ (bigSep Finset.univ fun i => Φ (.inr (.inl i)))
      ∗ (bigSep Finset.univ fun k => Φ (.inr (.inr (.inl k)))) ∗ bigSep Finset.univ fun k => Φ (.inr (.inr (.inr k)))) := by
  rw [BI.bigSep_univ_sum, BI.bigSep_univ_sum, BI.bigSep_univ_sum]
  rfl

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_TIx]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄) = zeros c := by
  unfold Pipeline.ownSems0; rw [BI.bigSep_univ_sum, BI.bigSep_univ_sum]; rfl
omit [FloatOps F] in
/-- The barrier's is the one semaphore that outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, bigSep_CIx]
  iintro ⟨Hz, HB⟩
  isplitl [HB]; · iexact HB
  iexact Hz

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens device `c` pays with. -/
def payToks (c : Dev nD) : sProp 𝕄 :=
  iprop((bigSep Finset.univ fun j : Fin 7 => dutyTok ER (barCell (peer c j)) 0 j.rev)
    ∗ (bigSep Finset.univ fun i : Fin 4 => dutyTok ER (cpCell c i) 0 (0 : Fin 7))
    ∗ (bigSep Finset.univ fun k : Fin 7 => dutyTok ER (sdCell c k) 0 (0 : Fin 7))
    ∗ bigSep Finset.univ fun k : Fin 7 => dutyTok ER (rvCell (peer c k) k) 0 (0 : Fin 7))

omit [FloatOps F] in
/-- A family over the devices and their peers is the family over the peers themselves. -/
theorem around (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k := by
  rw [Pipeline.bigSep_univ_comm Φ, Pipeline.bigSep_univ_comm fun c k => Φ (peer c k) k]
  exact bigSep_congr fun k _ => BI.bigSep_univ_equiv (ring k) fun c => Φ c k

omit [FloatOps F] in
theorem toks_around : (bigSep Finset.univ fun c : Dev nD => (toks c : sProp 𝕄)) ⊢ bigSep Finset.univ fun c : Dev nD => payToks c := by
  unfold toks payToks
  have hb : (bigSep Finset.univ fun c : Dev nD => bigSep Finset.univ fun j : Fin 7 => (dutyTok ER (barCell c) 0 j : sProp 𝕄))
      = bigSep Finset.univ fun c : Dev nD => bigSep Finset.univ fun j : Fin 7 => dutyTok ER (barCell (peer c j)) 0 j.rev := by
    rw [← around fun c j => (dutyTok ER (barCell c) 0 j.rev : sProp 𝕄)]
    exact bigSep_congr fun c _ => BI.bigSep_univ_equiv Fin.revPerm fun j => (dutyTok ER (barCell c) 0 j : sProp 𝕄)
  rw [bigSep_sep', bigSep_sep', bigSep_sep', bigSep_sep', bigSep_sep', bigSep_sep', hb,
    around fun c k => (dutyTok ER (rvCell c k) 0 (0 : Fin 7) : sProp 𝕄)]

theorem start_of (K : Dev nD × CIx → ℕ) (c : Dev nD) : iprop(records m K ∗ linear c) ⊢ G' m c := by
  unfold G'
  iintro H
  iexists K; iexact H

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%K, #HI⟩
  ihave Htk := (toks_around (F := F)) $$ Htok
  iapply (BI.bigSep_with_persistent (R := records m K) fun c _ => start_of m K c)
  isplitr
  · unfold records; isplitl; · iexact HI
    iexact HR
  · iapply ((Entails.of_eq (bigSep_sep' Finset.univ (fun c : Dev nD => bigSep Finset.univ fun k : CIx => (atPos ER (kcell (c, k)) 0 ∅ 0 : sProp 𝕄)) payToks).symm).trans
      (bigSep_mono fun c _ => show _ ⊢ linear c from Entails.of_eq (by unfold linear payToks; rw [bigSep_CIx]; rfl)))
    isplitl [Hat]; · iexact Hat
    iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_ne_rv (a b : Dev nD) (k : Fin 7) : barCell a ≠ rvCell b k := fun h => by
  have h' := congrArg (fun g : GSem nD τ sig => kind g.2) h
  simp only [kind_bar, kind_rv] at h'
  exact absurd h' (by simp)
theorem bar_eq_iff {a b : Dev nD} : barCell a = barCell b ↔ a = b :=
  ⟨fun h => congrArg (fun g : GSem nD τ sig => g.1.1) h, fun h => h ▸ rfl⟩
theorem rv_eq_iff {a b : Dev nD} {k l : Fin 7} : rvCell a k = rvCell b l ↔ a = b ∧ k = l :=
  ⟨fun h => ⟨congrArg (fun g : GSem nD τ sig => g.1.1) h, by
    have h' := congrArg (fun g : GSem nD τ sig => kind g.2) h
    simp only [kind_rv] at h'
    exact CellKind.recv.inj h'⟩, fun h => by rw [h.1, h.2]⟩

/-- What device `d` owes device `c`'s barrier cell: one if `c` is one of its peers. -/
theorem owed_bar (d c : Dev nD) : O₀ d (barCell c) () = ∑ k : Fin 7, if c = peer d k then 1 else 0 := by
  have h0 : owR d 0 (barCell c) () = 0 := by
    by_contra h
    obtain ⟨k, hk⟩ := owR_pos (Nat.pos_of_ne_zero h)
    exact bar_ne_rv _ _ _ hk
  unfold O₀
  rw [Pi.add_apply, Finsupp.add_apply, h0, Nat.zero_add, owB, finFrom_zero, Finset.sum_apply, Finsupp.finset_sum_apply]
  refine Finset.sum_congr rfl fun k _ => ?_
  rw [tallyAt_apply]
  simp only [bar_eq_iff, and_true]

theorem owed_rv (d c : Dev nD) (k : Fin 7) : O₀ d (rvCell c k) () = ∑ l : Fin 7, if c = peer d l ∧ k = l then N else 0 := by
  have h0 : owB d 0 (rvCell c k) () = 0 := by
    by_contra h
    obtain ⟨k, hk⟩ := owB_pos (Nat.pos_of_ne_zero h)
    exact bar_ne_rv _ _ _ hk.symm
  unfold O₀
  rw [Pi.add_apply, Finsupp.add_apply, h0, Nat.add_zero, owR, finFrom_zero, Finset.sum_apply, Finsupp.finset_sum_apply]
  refine Finset.sum_congr rfl fun l _ => ?_
  rw [tallyAt_apply]
  simp only [rv_eq_iff, and_true]

theorem count_bar (c : Dev nD) : (∑ d : Dev nD, ∑ k : Fin 7, if c = peer d k then 1 else 0) = 7 := by revert c; decide

theorem count_rv (c : Dev nD) (k : Fin 7) : (∑ d : Dev nD, ∑ l : Fin 7, if c = peer d l ∧ k = l then N else 0) = N := by
  rw [Finset.sum_eq_single (peer c k.rev), Finset.sum_eq_single k, if_pos ⟨(peer_rev' c k).symm, rfl⟩]
  · intro l _ hl; exact if_neg fun h => hl h.2.symm
  · intro h; exact absurd (Finset.mem_univ _) h
  · intro d _ hd
    refine Finset.sum_eq_zero fun l _ => if_neg ?_
    rintro ⟨rfl, rfl⟩
    exact hd (peer_rev d k).symm
  · intro h; exact absurd (Finset.mem_univ _) h

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, count_bar]

theorem launch_rv (c : Dev nD) (k : Fin 7) :
    tallyOn (rvCell c k) (launchCredit (Pipeline.owing O₀) 0 (rvCell c k)) = (tallyAt (rvCell c k) () N : CellTallies nD τ sig Unit) := by
  unfold tallyAt; refine congrArg _ (Finsupp.ext fun u => ?_); cases u
  rw [Pipeline.launchCredit_owing, Finsupp.single_eq_same, Finset.sum_congr rfl fun d _ => owed_rv d c k, count_rv]

/-- The seven receive semaphores among all. -/
def rvSems : Finset (SemLoc sig) := Finset.univ.map ⟨fun k : Fin 7 => (SemLoc.dma (rvS k) : SemLoc sig), by decide⟩

omit [FloatOps F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  refine (BI.bigSep_subset (show rvSems ⊆ Finset.univ.erase (SemLoc.reg barS) by decide)).trans ?_
  unfold rvSems
  rw [bigSep_map]
  exact bigSep_mono fun k _ => Entails.of_eq (congrArg cred (launch_rv c k))

/-! ## The theorem's side conditions -/

/-- The input the kernel never touches. -/
abbrev restPts (c : Dev nD) : sProp 𝕄 := iprop(((c : Thread nD τ).loc main_arg2) ↦{fullShare} m ((c : Thread nD τ).loc main_arg2))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ restPts m c) := by
  rw [Pipeline.unscopedRestP_none, unscopedRest0_eq]
  iintro ⟨⟨H0, H1, H2⟩, Hlev, Hcr, -, HG⟩
  ihave Hc := (creds_intro (F := F) c) $$ Hcr
  imodintro
  unfold start G'
  isplitr [H2]
  · isplitl [HG]; · iexact HG
    isplitl [Hc]; · iexact Hc
    isplitl [Hlev]; · iexact Hlev
    isplitl [H0]; · iexact H0
    iexact H1
  iexact H2

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop((unscopedSems0 c ∗ inPts m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨Hr, Hz, HzB, Hin⟩
  isplitl [HzB Hin]
  · isplitl [HzB] <;> iassumption
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> decide) _ (by
      rcases t with ⟨_ | _, ht⟩
      · exact Or.inl rfl
      · exact Or.inr (Or.inr rfl))

/-! ## The run -/

/-- The result array of device `c` after the run. -/
def finalA (c : Dev nD) (w : Fin cfg0.W) : Buf (Elt F) ((cfg0.win w).arr.view.loc (c : Thread nD τ)) := (dats m 0 c).arrAt w cfg0.N

/-- The three inputs of device `c` are what they were. -/
def ArgsKept (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

omit [FloatOps F] in
theorem read_one (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) (Finset.univ : Finset Unit) (fun _ => ℓ) (fun _ => f) s'
  rw [show (Finset.univ : Finset Unit) = {()} from rfl, bigSep_singleton] at h
  refine h.trans ?_
  iintro ⟨%hf, H⟩
  isplitr
  · ipureintro; exact hf () (Finset.mem_singleton_self ())
  iexact H

theorem read_args (c : Dev nD) (s' : Phys nD τ sig (Elt F)) :
    iprop((unscopedSems0 c ∗ inPts m c) ∗ restPts m c ∗ SI s')
      ⊢ |={Set.univ}=> (iprop(⌜ArgsKept m c s'.mem ∧ ∀ sm : SemLoc sig, sm.isScoped .tc = false → s'.mem.sem ((c.tc : Thread nD τ), sm) = 0⌝ ∗ SI s') : sProp 𝕄) := by
  unfold inPts restPts
  iintro ⟨⟨Hu, H0, H1⟩, H2, HSI⟩
  icases (read_one _ _ s') $$ [H0 HSI] with ⟨%h0, HSI⟩
  · isplitl [H0] <;> iassumption
  icases (read_one _ _ s') $$ [H1 HSI] with ⟨%h1, HSI⟩
  · isplitl [H1] <;> iassumption
  icases (read_one _ _ s') $$ [H2 HSI] with ⟨%h2, HSI⟩
  · isplitl [H2] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨⟨h0, h1, h2⟩, hs⟩
  iexact HSI

set_option maxRecDepth 8000 in
/-- From any memory with every counter at zero, every weakly fair execution terminates, and every final state has each
    device's result array at the computed contents, its inputs unchanged and every counter at zero. -/
theorem run_main : θ_run defs (onTc (τ := τ) (main (F := F))) (s₀ m ρ)
    (fun r => (∀ c : Dev nD, (∀ w : Fin cfg0.W, r.2.mem ((cfg0.win w).arr.view.loc (c : Thread nD τ)) = finalA m c w) ∧ ArgsKept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ inPts m c)) (Z := restPts m)
    (hX := start_intro m ρ) (hin := phi0_intro m) (hout := phi1_exit m)
    (QY := fun c s => ArgsKept m c s ∧ ∀ sm : SemLoc sig, sm.isScoped .tc = false → s.sem ((c.tc : Thread nD τ), sm) = 0)
    (hY := read_args m)
    (hQ := fun _ h hs => ⟨fun c => ⟨(h c).1, (h c).2.2.1⟩, sem_eq_zero hs fun c => (h c).2.2.2⟩)

omit [FloatOps F] in
theorem read_res (c : Dev nD) (f : Buf (Elt F) ((c : Thread nD τ).loc main_v1)) : (win0_0.blk t0_0).view.read (Elt F) f = f :=
  Memref.read_access_unit_zero (Elt F) main_v1
    (show (fun a => (win0_0.index t0_0) a * main_v1.ty.shape.size a) = fun _ => 0 from funext fun a => by fin_cases a <;> decide)
    (fun a => by fin_cases a <;> decide) f

/-- The result array after the run is the whole of what the body wrote. -/
theorem finalA_eq (c : Dev nD) : finalA m c (0 : Fin 1) = outAt m c := by
  have hw : ((cfg0.win 0).blk t0_0).view.read (Elt F) ((dats m 0 c).arrAt (0 : Fin 1) cfg0.N) = (dats m 0 c).flushed (0 : Fin 1) t0_0 := by
    rw [show cfg0.N = t0_0.val + 1 from rfl, (dats m 0 c).arrAt_succ (0 : Fin 1) t0_0, flush0_0, if_pos rfl]
    exact View.read_write_univ _ _
  have hf : (dats m 0 c).flushed (0 : Fin 1) t0_0 = outAt m c := by
    show (cfg0.win 0).cut _ ((dats m 0 c).after 0 t0_0) = _
    exact funext fun _ => rfl
  rw [hf] at hw
  exact (read_res c _).symm.trans hw

/-- The run at the three claims' own words. -/
theorem run_out : θ_run defs (onTc (τ := τ) (main (F := F))) (s₀ m ρ)
    (fun r => (∀ c : Dev nD, r.2.mem ((c : Thread nD τ).loc main_v1) = outAt m c ∧ ArgsKept m c r.2) ∧ r.2.sem = fun _ => 0) := by
  refine (θ_run defs (onTc (τ := τ) (main (F := F))) _).mono (fun r h => ?_) (run_main m ρ)
  obtain ⟨h, hs⟩ := h
  exact ⟨fun c => ⟨((h c).1 0).trans (finalA_eq m c), (h c).2⟩, hs⟩

end Cert.KernelIdealProof

end
-- ==== Proof.RowMath.lean ====
/-
One row of a layer norm on the extended reals: the normalized row by the mean of the squares less the square of the mean
and a reciprocal square root, and by the mean of the squared deviations and a square root; equal on a row of finite numbers.
-/
module

public import Idealize.ShloMosaic.PureOps
public import Idealize.ShloMosaic.Lib.IdealHost

@[expose] public section

noncomputable section

namespace Cert.RowMath

open Idealize.ShloMosaic
open scoped BigOperators

/-- A row of 512 extended reals. -/
abbrev Row : Type := Fin 512 → EReal

/-- The row's length, as both programs write it. -/
def len : EReal := Ideal.ofBits .f32 0x44000000#32
/-- The number added under the root, as both programs write it. -/
def eps : EReal := Ideal.ofBits .f32 0x3727C5AC#32

def mean (r : Row) : EReal := Ideal.div (∑ k, r k) len

/-- The normalized row, by the mean of the squares. -/
def hatSq (r : Row) (j : Fin 512) : EReal :=
  (r j - mean r) * Ideal.rsqrt (Ideal.div (∑ k, r k * r k) len - mean r * mean r + eps)

/-- The normalized row, by the mean of the squared deviations. -/
def hatDev (r : Row) (j : Fin 512) : EReal :=
  (r j - mean r) * Ideal.div 1 (Ideal.sqrt (Ideal.div (∑ k, (r k - mean r) * (r k - mean r)) len + eps))

theorem len_eq : len = ((512 : ℝ) : EReal) := by
  unfold len; simp [Ideal.ofBits, Ideal.ieee, -EReal.coe_mul]; norm_num

theorem len_pos : 0 < Ideal.ofBits .f32 0x44000000#32 := by
  rw [show Ideal.ofBits .f32 0x44000000#32 = len from rfl, len_eq]
  exact_mod_cast (by norm_num : (0 : ℝ) < 512)

/-- The reference subtracts its zero degrees of freedom. -/
theorem len_sub : Ideal.ofBits .f32 0x44000000#32 - FloatOps.sitofp (F := Ideal) .f32 (0#32) = Ideal.ofBits .f32 0x44000000#32 := by
  rw [show FloatOps.sitofp (F := Ideal) .f32 (0#32) = (((0#32).toInt : ℝ) : EReal) from rfl]
  simp

theorem eps_pos : ∃ e : ℝ, 0 < e ∧ eps = (e : EReal) := by
  refine ⟨_, ?_, show eps = ((_ : ℝ) : EReal) from by unfold eps; simp [Ideal.ofBits, Ideal.ieee, -EReal.coe_mul]; rfl⟩
  norm_num

theorem coe_sum {ι : Type} (s : Finset ι) (a : ι → ℝ) : (∑ k ∈ s, ((a k : ℝ) : EReal)) = ((∑ k ∈ s, a k : ℝ) : EReal) := by
  classical
  induction s using Finset.induction_on with
  | empty => simp
  | insert i s hi ih => rw [Finset.sum_insert hi, Finset.sum_insert hi, ih, EReal.coe_add]

theorem div_len (a : ℝ) : Ideal.div (a : EReal) len = ((a / 512 : ℝ) : EReal) := by
  rw [len_eq]; unfold Ideal.div
  rw [if_neg (by simp), div_eq_mul_inv, EReal.coe_mul, EReal.coe_inv]

theorem mean_coe (a : Fin 512 → ℝ) : mean (fun k => (a k : EReal)) = (((∑ k, a k) / 512 : ℝ) : EReal) := by
  unfold mean; rw [coe_sum, div_len]

/-- The mean of the squares less the square of the mean is the mean of the squared deviations. -/
theorem var_real (a : Fin 512 → ℝ) : (∑ k, a k * a k) / 512 - (∑ k, a k) / 512 * ((∑ k, a k) / 512)
    = (∑ k, (a k - (∑ k, a k) / 512) * (a k - (∑ k, a k) / 512)) / 512 := by
  generalize hS : ∑ k, a k = S
  have h : ∑ k, (a k - S / 512) * (a k - S / 512) = ∑ k, a k * a k - S * S / 512 := by
    have e : ∀ k, (a k - S / 512) * (a k - S / 512) = a k * a k - 2 * (S / 512) * a k + (S / 512) * (S / 512) := fun k => by ring
    rw [Finset.sum_congr rfl fun k _ => e k, Finset.sum_add_distrib, Finset.sum_sub_distrib, ← Finset.mul_sum, hS]
    simp only [Finset.sum_const, Finset.card_univ, Fintype.card_fin, nsmul_eq_mul]
    push_cast; ring
  rw [h]; ring

theorem hat_eq (r : Row) (h : ∀ k, ∃ a : ℝ, r k = (a : EReal)) (j : Fin 512) : hatSq r j = hatDev r j := by
  choose a ha using h
  obtain rfl : r = fun k => (a k : EReal) := funext ha
  obtain ⟨e, he, hE⟩ := eps_pos
  unfold hatSq hatDev
  rw [mean_coe, hE]
  congr 1
  simp only [← EReal.coe_mul, ← EReal.coe_sub]
  rw [coe_sum, coe_sum, div_len, div_len, ← EReal.coe_sub, var_real, ← EReal.coe_add]
  have hv : 0 ≤ (∑ k, (a k - (∑ k, a k) / 512) * (a k - (∑ k, a k) / 512)) / 512 :=
    div_nonneg (Finset.sum_nonneg fun k _ => mul_self_nonneg _) (by norm_num)
  generalize (∑ k, (a k - (∑ k, a k) / 512) * (a k - (∑ k, a k) / 512)) / 512 = v at hv
  have hp : 0 < v + e := by linarith
  have hs : Real.sqrt (v + e) ≠ 0 := (Real.sqrt_pos.mpr hp).ne'
  rw [Ideal.rsqrt_coe, if_neg (not_lt.mpr hp.le), if_neg hp.ne']
  have hq : Ideal.sqrt ((v + e : ℝ) : EReal) = ((Real.sqrt (v + e) : ℝ) : EReal) := if_neg (not_lt.mpr hp.le)
  rw [hq]
  unfold Ideal.div
  rw [if_neg (by exact_mod_cast hs), one_mul, EReal.coe_inv]

end Cert.RowMath

end
-- ==== Proof.ReferenceValue.lean ====
/-
What the reference computes, read at an index: the column sums of `dy` times the normalized rows, and of `dy`.
-/
module

public import proofs.«01_k».proof.Proof.Gen.ReferenceIdeal.Run
public import proofs.«01_k».proof.Proof.RowMath
public import Idealize.ShloMosaic.Lib.Pointwise
public import Idealize.ShloMosaic.Lib.Tactic.CleanTypes

@[expose] public section

set_option maxRecDepth 16384

noncomputable section

namespace Cert.ReferenceProof

open Cert.ReferenceIdeal Cert.ReferenceIdeal.Gen
open Idealize.ShloMosaic Idealize.ShloMosaic.TcCoe Idealize.SL.Sem
open Cert.RowMath
open scoped BigOperators

/-- The two results as sums over all 4096 rows. -/
def spec (X DY : S4096x512.Idx → EReal) : S2x512.Idx → EReal := fun i =>
  if (i 0).val = 0 then ∑ R : Fin 4096, DY (ix2 R (i 1)) * hatDev (fun k => X (ix2 R k)) (i 1)
  else ∑ R : Fin 4096, DY (ix2 R (i 1))

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19) = spec (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2⟩) (Value.run (F := Ideal) m ρ)
  generalize (m ((c.tc : Thread nD τ).loc main_arg0)) = X
  generalize (m ((c.tc : Thread nD τ).loc main_arg1)) = DY
  funext i
  obtain ⟨a, j, rfl⟩ : ∃ (a : Fin 2) (j : Fin 512), i = ix2 a j := ⟨i 0, i 1, eq_ix2 i⟩
  clean_types
  fin_cases a
  · pointwise [spec, hatDev, mean, len, eps]
    simp only [len_sub, if_pos len_pos]
  · pointwise [spec]

end Cert.ReferenceProof

end
-- ==== Proof.KernelIdealValue.lean ====
/-
What the kernel leaves on every device, read at an index: the two column sums over the rows of all devices.
-/
module

public import proofs.«01_k».proof.Proof.KernelIdealCommon
public import proofs.«01_k».proof.Proof.RowMath
public import Idealize.ShloMosaic.Lib.Pointwise
public import Idealize.ShloMosaic.Lib.ViewIndex

@[expose] public section

set_option maxRecDepth 16384

noncomputable section

namespace Cert.KernelIdealProof

open Cert.KernelIdeal Cert.KernelIdeal.Gen
open Idealize.ShloMosaic Idealize.ShloMosaic.TcCoe
open Cert.RowMath
open scoped BigOperators

theorem half_row0 (x dy : S256x512.Idx → EReal) (j : Fin 512) :
    k0_pay1 (F := Ideal) x dy (ix2 0 j) = ∑ a : Fin 256, dy (ix2 a j) * hatSq (fun k => x (ix2 a k)) j := by
  pointwise [k0_pay1, hatSq, mean, len, eps]

theorem half_row1 (x dy : S256x512.Idx → EReal) (j : Fin 512) :
    k0_pay1 (F := Ideal) x dy (ix2 1 j) = ∑ a : Fin 256, dy (ix2 a j) := by
  pointwise [k0_pay1]

theorem pay2_eq (v : S2x512.Idx → EReal) (x dy : S256x512.Idx → EReal) (i : Fin 2) (j : Fin 512) :
   k0_pay2 (F := Ideal) v x dy (ix2 i j) = v (ix2 i j) + k0_pay1 (F := Ideal) x dy (ix2 i j) := by
  pointwise [k0_pay2, k0_pay1]

variable (m : (ℓ : Loc nD τ sig) → Buf (Elt Ideal) ℓ)

/-- Device `c`'s blocks of the two arrays. -/
abbrev xOf (c : Dev nD) : S512x512.Idx → EReal := m ((c : Thread nD τ).loc main_arg0)
abbrev dyOf (c : Dev nD) : S512x512.Idx → EReal := m ((c : Thread nD τ).loc main_arg1)

/-- A half's row in its block. -/
def lo (a : Fin 256) : Fin 512 := ⟨a.val, by omega⟩
def hi (a : Fin 256) : Fin 512 := ⟨256 + a.val, by omega⟩

theorem emb_half (i : Fin 4) (a : Fin 256) (j : Fin 512) (r : Fin 512) (h : cpRow i + a.val = r.val) :
    (rHalf i).emb (ix2 a j) = ix2 r j := by
  funext b
  match b with
  | ⟨0, _⟩ => exact Fin.ext (show cpRow i + 1 * a.val = r.val by omega)
  | ⟨1, _⟩ => exact Fin.ext (show 0 + 1 * j.val = j.val by omega)

theorem cpVal_0 (c : Dev nD) (a : Fin 256) (j : Fin 512) : cpVal m c 0 (ix2 a j) = xOf m c (ix2 (lo a) j) := by
  show xOf m c ((rHalf 0).emb (ix2 a j)) = _
  rw [emb_half 0 a j (lo a) (Nat.zero_add _)]
theorem cpVal_1 (c : Dev nD) (a : Fin 256) (j : Fin 512) : cpVal m c 1 (ix2 a j) = dyOf m c (ix2 (lo a) j) := by
  show dyOf m c ((rHalf 1).emb (ix2 a j)) = _
  rw [emb_half 1 a j (lo a) (Nat.zero_add _)]
theorem cpVal_2 (c : Dev nD) (a : Fin 256) (j : Fin 512) : cpVal m c 2 (ix2 a j) = xOf m c (ix2 (hi a) j) := by
  show xOf m c ((rHalf 2).emb (ix2 a j)) = _
  rw [emb_half 2 a j (hi a) rfl]
theorem cpVal_3 (c : Dev nD) (a : Fin 256) (j : Fin 512) : cpVal m c 3 (ix2 a j) = dyOf m c (ix2 (hi a) j) := by
  show dyOf m c ((rHalf 3).emb (ix2 a j)) = _
  rw [emb_half 3 a j (hi a) rfl]

/-- A sum over a block's rows is the sum over its two halves. -/
theorem sum_halves (f : Fin 512 → EReal) : (∑ a, f (lo a)) + ∑ a, f (hi a) = ∑ r, f r :=
  (Fin.sum_univ_add (a := 256) (b := 256) f).symm

/-- A block's row, normalized as the kernel does. -/
abbrev xRow (c : Dev nD) (r : Fin 512) : Row := fun k => xOf m c (ix2 r k)

/-- A device's partial sums and its result, as arrays of extended reals. -/
abbrev partE (c : Dev nD) : S2x512.Idx → EReal := partSum m c
abbrev slotE (c : Dev nD) (k : Fin 7) : S1x2x512.Idx → EReal := slotVal m c k
abbrev outE (c : Dev nD) : S2x512.Idx → EReal := outAt m c

theorem partSum_row0 (c : Dev nD) (j : Fin 512) :
    partE m c (ix2 0 j) = ∑ r, dyOf m c (ix2 r j) * hatSq (xRow m c r) j := by
  unfold partE partSum
  rw [pay2_eq, half_row0, half_row0, ← sum_halves]
  simp only [cpVal_0, cpVal_1, cpVal_2, cpVal_3]

theorem partSum_row1 (c : Dev nD) (j : Fin 512) : partE m c (ix2 1 j) = ∑ r, dyOf m c (ix2 r j) := by
  unfold partE partSum
  rw [pay2_eq, half_row1, half_row1, ← sum_halves]
  simp only [cpVal_1, cpVal_3]

theorem unsqueeze (i : Fin 2) (j : Fin 512) : Shape.reshapeEquiv squeezes_S1x2x512_S2x512.numel_eq (ix2 i j) = ix3 0 i j := by
  pointwise

theorem slotVal_apply (c : Dev nD) (k : Fin 7) (i : Fin 2) (j : Fin 512) :
    slotE m c k (ix3 0 i j) = partE m (peer c k.rev) (ix2 i j) := by
  have h := View.read_write_reshape (Val := Elt Ideal) (gatM.slice (rSlot k) (fun _ => rfl)).view squeezes_S1x2x512_S2x512.numel_eq
    (m ((slotM k).view.loc (c : Thread nD τ))) (partSum m (peer c k.rev)) (ix2 i j)
  rw [unsqueeze] at h
  exact h

theorem sum_peers (f : Dev nD → EReal) (c : Dev nD) : f c + (∑ k : Fin 7, f (peer c k.rev)) = ∑ d, f d := by
  rw [Fintype.sum_equiv Fin.revPerm (fun k : Fin 7 => f (peer c k.rev)) (fun k => f (peer c k)) fun _ => rfl]
  rw [← Fintype.sum_equiv (Equiv.addLeft c) (fun d => f (c + d)) f fun _ => rfl]
  refine Eq.trans ?_ (Fin.sum_univ_succ (n := 7) fun d => f (c + d)).symm
  have h0 : c + 0 = c := by revert c; decide
  have hs : ∀ k : Fin 7, c + k.succ = peer c k := by revert c; decide
  rw [h0, Finset.sum_congr rfl fun k _ => congrArg f (hs k)]

/-- The kernel's result is the sum of every device's. -/
theorem outAt_apply (c : Dev nD) (i : Fin 2) (j : Fin 512) : outE m c (ix2 i j) = ∑ d, partE m d (ix2 i j) := by
  have h : outE m c (ix2 i j) = partE m c (ix2 i j) + ∑ k : Fin 7, slotE m c k (ix3 0 i j) := by
    rw [Fin.sum_univ_seven]
    unfold outE outAt
    pointwise [k0_pay3, k0_pay4, k0_pay5]
    simp only [add_assoc]
  rw [h, Finset.sum_congr rfl fun k _ => slotVal_apply m c k i j]
  exact sum_peers (fun d => partE m d (ix2 i j)) c

end Cert.KernelIdealProof

end
-- ==== Proof.Algebra.lean ====
/-
The value claim: on finite `x`, what the kernel leaves on every device is what the reference computes over the whole arrays.
-/
module

public import proofs.«01_k».proof.Defs
public import proofs.«01_k».proof.Proof.KernelIdealRun
public import proofs.«01_k».proof.Proof.KernelIdealValue
public import proofs.«01_k».proof.Proof.ReferenceValue
public import Idealize.ShloMosaic.Lib.Pipeline.ValueKit

@[expose] public section

set_option maxRecDepth 16384

noncomputable section

namespace Cert.AlgebraProof

open Idealize.ShloMosaic Idealize.ShloMosaic.TcCoe Idealize.SL.Sem
open Cert.RowMath Cert.KernelIdealProof Cert.ReferenceProof
open scoped BigOperators

abbrev SBlk : Shape := ⟨2, ![512, 512]⟩
abbrev SAll : Shape := ⟨2, ![4096, 512]⟩

theorem facts_pre_KI : Cert.Pre_finite_x_KernelIdeal.Facts := ⟨by decide⟩
theorem facts_pre_RI : Cert.Pre_finite_x_ReferenceIdeal.Facts := ⟨by decide⟩

/-- Below infinity in absolute value is a real number. -/
theorem real_of_abs_lt (v : EReal) (h : max v (-v) < ⊤) : ∃ a : ℝ, v = (a : EReal) := by
  induction v using EReal.rec with
  | bot => simp at h
  | top => simp at h
  | coe a => exact ⟨a, rfl⟩

theorem ofBits_inf : Ideal.ofBits .f32 0x7F800000#32 = ⊤ := by simp [Ideal.ofBits, Ideal.ieee]

/-- What the precondition says of a device's block. -/
theorem finite_of_pre [Cert.Pre_finite_x_KernelIdeal.Facts] (x dy : FVec Ideal SBlk .f32) (g : FVec Ideal ⟨1, ![512]⟩ .f32)
    (h : Cert.Pre_finite_x_KernelIdeal.fn (F := Ideal) x dy g = fun _ => 1#1) (r k : Fin 512) : ∃ a : ℝ, x (ix2 r k) = (a : EReal) := by
  have h1 := congrFun h (ix2 r k)
  have h2 : Ideal.cmp .olt (max (x (ix2 r k)) (-(x (ix2 r k)))) (Ideal.ofBits .f32 0x7F800000#32) = 1#1 := h1
  have h3 := (Ideal.cmp_olt_eq_one _ _).mp h2
  rw [ofBits_inf] at h3
  exact real_of_abs_lt _ h3

/-- A device's row in the whole array. -/
def row (d : Fin 8) (r : Fin 512) : Fin 4096 := ⟨d.val * 512 + r.val, by omega⟩

theorem block_at (d : Fin 8) (V : SAll.Idx → EReal) (r k : Fin 512) :
    Layout.block SBlk SAll 0 8 d V (by decide) (ix2 r k) = V (ix2 (row d r) k) := by
  rw [Layout.block_apply]
  refine congrArg V (funext fun b => ?_)
  match b with
  | ⟨0, _⟩ => rfl
  | ⟨1, _⟩ => rfl

theorem sum_rows (f : Fin 4096 → EReal) : (∑ d : Fin 8, ∑ r : Fin 512, f (row d r)) = ∑ R, f R :=
  Fin.sum_mul_add_congr fun _ _ _ => rfl

/-- The two sides meet: every device's result is the reference's. -/
theorem value_eq (m : (ℓ : Loc Cert.KernelIdeal.nD Cert.KernelIdeal.τ Cert.KernelIdeal.sig) → Buf (Elt Ideal) ℓ)
    (X DY : SAll.Idx → EReal)
    (hx : ∀ d, xOf m d = Layout.block SBlk SAll 0 8 d X (by decide)) (hdy : ∀ d, dyOf m d = Layout.block SBlk SAll 0 8 d DY (by decide))
    (hfin : ∀ d r k, ∃ a : ℝ, xOf m d (ix2 r k) = (a : EReal)) (c : Dev Cert.KernelIdeal.nD) :
    outE m c = spec X DY := by
  funext i
  obtain ⟨a, j, rfl⟩ : ∃ (a : Fin 2) (j : Fin 512), i = ix2 a j := ⟨i 0, i 1, eq_ix2 i⟩
  rw [outAt_apply]
  have hX : ∀ d r k, xOf m d (ix2 r k) = X (ix2 (row d r) k) := fun d r k => by rw [hx d]; exact block_at d X r k
  have hD : ∀ d r k, dyOf m d (ix2 r k) = DY (ix2 (row d r) k) := fun d r k => by rw [hdy d]; exact block_at d DY r k
  fin_cases a
  · show (∑ d, partE m d (ix2 0 j)) = ∑ R : Fin 4096, DY (ix2 R j) * hatDev (fun k => X (ix2 R k)) j
    rw [← sum_rows]
    refine Finset.sum_congr rfl fun d _ => ?_
    rw [partSum_row0]
    refine Finset.sum_congr rfl fun r _ => ?_
    rw [hat_eq _ (hfin d r), hD]
    refine congrArg (fun r' => _ * hatDev r' j) (funext fun k => hX d r k)
  · show (∑ d, partE m d (ix2 1 j)) = ∑ R : Fin 4096, DY (ix2 R j)
    rw [← sum_rows]
    refine Finset.sum_congr rfl fun d _ => ?_
    rw [partSum_row1]
    exact Finset.sum_congr rfl fun r _ => hD d r j

theorem algebraic : Cert.algebraic_KernelIdeal_ReferenceIdeal_pre_finite_x_KernelIdeal (hKernelIdeal := Cert.KernelIdeal.Gen.facts)
    (hReferenceIdeal := Cert.ReferenceIdeal.Gen.facts) (hPre_finite_x_KernelIdeal := facts_pre_KI) := by
  intro m g m' g' hpre hag
  let X : SAll.Idx → EReal := m' (((0 : Dev Cert.ReferenceIdeal.nD).tc : Thread Cert.ReferenceIdeal.nD Cert.ReferenceIdeal.τ).loc Cert.ReferenceIdeal.main_arg0)
  let DY : SAll.Idx → EReal := m' (((0 : Dev Cert.ReferenceIdeal.nD).tc : Thread Cert.ReferenceIdeal.nD Cert.ReferenceIdeal.τ).loc Cert.ReferenceIdeal.main_arg1)
  refine ⟨spec X DY, ?_, ?_⟩
  · refine (θ_run Cert.KernelIdeal.defs _ _).mono (fun r h c => ?_) (run_out (F := Ideal) m g)
    obtain ⟨ho, ha⟩ := h.1 c
    refine ⟨ho.trans ?_, ha⟩
    exact value_eq m X DY (fun d => (hag d).1) (fun d => (hag d).2.1)
      (fun d => letI := facts_pre_KI; finite_of_pre _ _ _ (hpre d)) c
  · exact (θ_run Cert.ReferenceIdeal.defs _ _).mono (fun r h => h 0) (ref_run m' g')

end Cert.AlgebraProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.KernelIdealRun
public import proofs.«01_k».proof.Proof.ReferenceValue
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m ρ _ =>
  (θ_run Cert.Kernel.defs _ _).mono (fun _ h => ⟨fun c => (h.1 c).2, h.2⟩) (Cert.KernelProof.run_out (F := Bits) m ρ)

theorem frame_kernelIdeal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdealProof.run_out (F := Ideal) m ρ)

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceProof.ref_run m ρ)

theorem claim : Cert.Claim := ⟨Cert.Kernel.Gen.facts, Cert.KernelIdeal.Gen.facts, Cert.ReferenceIdeal.Gen.facts,
  Cert.AlgebraProof.facts_pre_KI, Cert.AlgebraProof.facts_pre_RI, frame_kernel, frame_kernelIdeal,
  fun m ρ _ => frame_kernelIdeal m ρ trivial, frame_reference, fun m ρ _ => frame_reference m ρ trivial, trivial, Cert.AlgebraProof.algebraic⟩

end Cert.Proof

end
